-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x32x256 : Shape := ⟨4, ![4, 32, 32, 256]⟩
abbrev S256 : Shape := ⟨1, ![256]⟩
abbrev S256x512 : Shape := ⟨2, ![256, 512]⟩
abbrev S512 : Shape := ⟨1, ![512]⟩
abbrev S3x3x1x512 : Shape := ⟨4, ![3, 3, 1, 512]⟩
abbrev S512x144 : Shape := ⟨2, ![512, 144]⟩
abbrev S16x512 : Shape := ⟨2, ![16, 512]⟩
abbrev S512x64 : Shape := ⟨2, ![512, 64]⟩
abbrev S512x256 : Shape := ⟨2, ![512, 256]⟩
abbrev S4x1024x256 : Shape := ⟨3, ![4, 1024, 256]⟩
abbrev S9x512 : Shape := ⟨2, ![9, 512]⟩
abbrev S1x256 : Shape := ⟨2, ![1, 256]⟩
abbrev S1x512 : Shape := ⟨2, ![1, 512]⟩
abbrev S64x512 : Shape := ⟨2, ![64, 512]⟩
abbrev S1x1024x256 : Shape := ⟨3, ![1, 1024, 256]⟩
abbrev S8x128x512 : Shape := ⟨3, ![8, 128, 512]⟩
abbrev S8x128x64 : Shape := ⟨3, ![8, 128, 64]⟩
abbrev S1024x256 : Shape := ⟨2, ![1024, 256]⟩
abbrev S1024 : Shape := ⟨1, ![1024]⟩
abbrev S1024x1 : Shape := ⟨2, ![1024, 1]⟩
abbrev S1024x512 : Shape := ⟨2, ![1024, 512]⟩
abbrev S33x512 : Shape := ⟨2, ![33, 512]⟩
abbrev S991x512 : Shape := ⟨2, ![991, 512]⟩
abbrev S1023x512 : Shape := ⟨2, ![1023, 512]⟩
abbrev S31x512 : Shape := ⟨2, ![31, 512]⟩
abbrev S993x512 : Shape := ⟨2, ![993, 512]⟩
abbrev S32x512 : Shape := ⟨2, ![32, 512]⟩
abbrev S992x512 : Shape := ⟨2, ![992, 512]⟩
abbrev S1024x144 : Shape := ⟨2, ![1024, 144]⟩
abbrev S1024x64 : Shape := ⟨2, ![1024, 64]⟩
abbrev S1024x16 : Shape := ⟨2, ![1024, 16]⟩
abbrev S1x128x512 : Shape := ⟨3, ![1, 128, 512]⟩
abbrev S128x512 : Shape := ⟨2, ![128, 512]⟩
abbrev S1x128x64 : Shape := ⟨3, ![1, 128, 64]⟩
abbrev S128x64 : Shape := ⟨2, ![128, 64]⟩
abbrev S64x128 : Shape := ⟨2, ![64, 128]⟩
abbrev S64x1 : Shape := ⟨2, ![64, 1]⟩
abbrev S1x1x512 : Shape := ⟨3, ![1, 1, 512]⟩

abbrev nBuf : Space → Nat
  | .hbm => 30
  | .vmem => 26
  | .smem => 0
  | _ => 0

abbrev bufTy : (tb : Table) → Fin (tcTables nBuf tb) → BufTy
  | .hbm, ⟨0, _⟩ => ⟨S4x32x32x256, .f32⟩
  | .hbm, ⟨1, _⟩ => ⟨S256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S3x3x1x512, .f32⟩
  | .hbm, ⟨6, _⟩ => ⟨S512, .f32⟩
  | .hbm, ⟨7, _⟩ => ⟨S512x144, .f32⟩
  | .hbm, ⟨8, _⟩ => ⟨S16x512, .f32⟩
  | .hbm, ⟨9, _⟩ => ⟨S512, .f32⟩
  | .hbm, ⟨10, _⟩ => ⟨S512x64, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x256, .f32⟩
  | .hbm, ⟨15, _⟩ => ⟨S256, .f32⟩
  | .hbm, ⟨16, _⟩ => ⟨S4x1024x256, .f32⟩
  | .hbm, ⟨17, _⟩ => ⟨S9x512, .f32⟩
  | .hbm, ⟨18, _⟩ => ⟨S1x256, .f32⟩
  | .hbm, ⟨19, _⟩ => ⟨S1x256, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S64x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x256, .f32⟩
  | .hbm, ⟨28, _⟩ => ⟨S4x1024x256, .f32⟩
  | .hbm, ⟨29, _⟩ => ⟨S4x32x32x256, .f32⟩
  | .local _ .vmem, ⟨0, _⟩ => ⟨S1x1024x256, .f32⟩
  | .local _ .vmem, ⟨1, _⟩ => ⟨S1x1024x256, .f32⟩
  | .local _ .vmem, ⟨2, _⟩ => ⟨S1x256, .f32⟩
  | .local _ .vmem, ⟨3, _⟩ => ⟨S1x256, .f32⟩
  | .local _ .vmem, ⟨4, _⟩ => ⟨S256x512, .f32⟩
  | .local _ .vmem, ⟨5, _⟩ => ⟨S1x512, .f32⟩
  | .local _ .vmem, ⟨6, _⟩ => ⟨S9x512, .f32⟩
  | .local _ .vmem, ⟨7, _⟩ => ⟨S1x512, .f32⟩
  | .local _ .vmem, ⟨8, _⟩ => ⟨S512x144, .f32⟩
  | .local _ .vmem, ⟨9, _⟩ => ⟨S16x512, .f32⟩
  | .local _ .vmem, ⟨10, _⟩ => ⟨S1x512, .f32⟩
  | .local _ .vmem, ⟨11, _⟩ => ⟨S64x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x256, .f32⟩
  | .local _ .vmem, ⟨16, _⟩ => ⟨S1x256, .f32⟩
  | .local _ .vmem, ⟨17, _⟩ => ⟨S1x1024x256, .f32⟩
  | .local _ .vmem, ⟨18, _⟩ => ⟨S1x1024x256, .f32⟩
  | .local _ .vmem, ⟨19, _⟩ => ⟨S8x128x512, .f32⟩
  | .local _ .vmem, ⟨20, _⟩ => ⟨S8x128x512, .f32⟩
  | .local _ .vmem, ⟨21, _⟩ => ⟨S8x128x512, .f32⟩
  | .local _ .vmem, ⟨22, _⟩ => ⟨S8x128x64, .f32⟩
  | .local _ .vmem, ⟨23, _⟩ => ⟨S8x128x64, .f32⟩
  | .local _ .vmem, ⟨24, _⟩ => ⟨S8x128x512, .f32⟩
  | .local _ .vmem, ⟨25, _⟩ => ⟨S64x512, .f32⟩
  | _, _ => ⟨S4x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_79 : BitVec 32 := 0#32
  let c8_i32 : BitVec 32 := 8#32
  let v205 : BitVec 32 := Scalar.addi c0_i32_79 c8_i32
  let c1_i32_80 : BitVec 32 := 1#32
  ⟨c0_i32_79, v205, c1_i32_80⟩
def k0_off1 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v252 : Index := Scalar.indexCast arg25
  let c0_110 : Index := 0#32
  let c0_111 : Index := 0#32
  ![v252.toNat, 0, 0]
def k0_off2 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v258 : Index := Scalar.indexCast arg25
  let c0_114 : Index := 0#32
  let c0_115 : Index := 0#32
  ![v258.toNat, 0, 0]
def k0_off3 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v283 : Index := Scalar.indexCast arg25
  let c0_121 : Index := 0#32
  let c0_122 : Index := 0#32
  ![v283.toNat, 0, 0]
def k0_off4 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v304 : Index := Scalar.indexCast arg25
  let c1_126 : Index := 1#32
  let c0_127 : Index := 0#32
  ![v304.toNat, 1, 0]
def k0_off5 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v325 : Index := Scalar.indexCast arg25
  let c2_131 : Index := 2#32
  let c0_132 : Index := 0#32
  ![v325.toNat, 2, 0]
def k0_off6 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v346 : Index := Scalar.indexCast arg25
  let c3_136 : Index := 3#32
  let c0_137 : Index := 0#32
  ![v346.toNat, 3, 0]
def k0_off7 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v367 : Index := Scalar.indexCast arg25
  let c4_141 : Index := 4#32
  let c0_142 : Index := 0#32
  ![v367.toNat, 4, 0]
def k0_off8 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v388 : Index := Scalar.indexCast arg25
  let c5_146 : Index := 5#32
  let c0_147 : Index := 0#32
  ![v388.toNat, 5, 0]
def k0_off9 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v409 : Index := Scalar.indexCast arg25
  let c6_151 : Index := 6#32
  let c0_152 : Index := 0#32
  ![v409.toNat, 6, 0]
def k0_off10 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v430 : Index := Scalar.indexCast arg25
  let c7_156 : Index := 7#32
  let c0_157 : Index := 0#32
  ![v430.toNat, 7, 0]
def k0_off11 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v451 : Index := Scalar.indexCast arg25
  let c8_161 : Index := 8#32
  let c0_162 : Index := 0#32
  ![v451.toNat, 8, 0]
def k0_off12 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v472 : Index := Scalar.indexCast arg25
  let c9 : Index := 9#32
  let c0_166 : Index := 0#32
  ![v472.toNat, 9, 0]
def k0_off13 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v493 : Index := Scalar.indexCast arg25
  let c10 : Index := 10#32
  let c0_170 : Index := 0#32
  ![v493.toNat, 10, 0]
def k0_off14 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v514 : Index := Scalar.indexCast arg25
  let c11 : Index := 11#32
  let c0_174 : Index := 0#32
  ![v514.toNat, 11, 0]
def k0_off15 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v535 : Index := Scalar.indexCast arg25
  let c12 : Index := 12#32
  let c0_178 : Index := 0#32
  ![v535.toNat, 12, 0]
def k0_off16 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v556 : Index := Scalar.indexCast arg25
  let c13 : Index := 13#32
  let c0_182 : Index := 0#32
  ![v556.toNat, 13, 0]
def k0_off17 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v577 : Index := Scalar.indexCast arg25
  let c14 : Index := 14#32
  let c0_186 : Index := 0#32
  ![v577.toNat, 14, 0]
def k0_off18 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v598 : Index := Scalar.indexCast arg25
  let c15 : Index := 15#32
  let c0_190 : Index := 0#32
  ![v598.toNat, 15, 0]
def k0_off19 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v619 : Index := Scalar.indexCast arg25
  let c16 : Index := 16#32
  let c0_194 : Index := 0#32
  ![v619.toNat, 16, 0]
def k0_off20 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v640 : Index := Scalar.indexCast arg25
  let c17 : Index := 17#32
  let c0_198 : Index := 0#32
  ![v640.toNat, 17, 0]
def k0_off21 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v661 : Index := Scalar.indexCast arg25
  let c18 : Index := 18#32
  let c0_202 : Index := 0#32
  ![v661.toNat, 18, 0]
def k0_off22 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v682 : Index := Scalar.indexCast arg25
  let c19 : Index := 19#32
  let c0_206 : Index := 0#32
  ![v682.toNat, 19, 0]
def k0_off23 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v703 : Index := Scalar.indexCast arg25
  let c20 : Index := 20#32
  let c0_210 : Index := 0#32
  ![v703.toNat, 20, 0]
def k0_off24 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v724 : Index := Scalar.indexCast arg25
  let c21 : Index := 21#32
  let c0_214 : Index := 0#32
  ![v724.toNat, 21, 0]
def k0_off25 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v745 : Index := Scalar.indexCast arg25
  let c22 : Index := 22#32
  let c0_218 : Index := 0#32
  ![v745.toNat, 22, 0]
def k0_off26 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v766 : Index := Scalar.indexCast arg25
  let c23 : Index := 23#32
  let c0_222 : Index := 0#32
  ![v766.toNat, 23, 0]
def k0_off27 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v787 : Index := Scalar.indexCast arg25
  let c24 : Index := 24#32
  let c0_226 : Index := 0#32
  ![v787.toNat, 24, 0]
def k0_off28 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v808 : Index := Scalar.indexCast arg25
  let c25 : Index := 25#32
  let c0_230 : Index := 0#32
  ![v808.toNat, 25, 0]
def k0_off29 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v829 : Index := Scalar.indexCast arg25
  let c26 : Index := 26#32
  let c0_234 : Index := 0#32
  ![v829.toNat, 26, 0]
def k0_off30 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v850 : Index := Scalar.indexCast arg25
  let c27 : Index := 27#32
  let c0_238 : Index := 0#32
  ![v850.toNat, 27, 0]
def k0_off31 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v871 : Index := Scalar.indexCast arg25
  let c28 : Index := 28#32
  let c0_242 : Index := 0#32
  ![v871.toNat, 28, 0]
def k0_off32 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v892 : Index := Scalar.indexCast arg25
  let c29 : Index := 29#32
  let c0_246 : Index := 0#32
  ![v892.toNat, 29, 0]
def k0_off33 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v913 : Index := Scalar.indexCast arg25
  let c30 : Index := 30#32
  let c0_250 : Index := 0#32
  ![v913.toNat, 30, 0]
def k0_off34 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v934 : Index := Scalar.indexCast arg25
  let c31 : Index := 31#32
  let c0_254 : Index := 0#32
  ![v934.toNat, 31, 0]
def k0_off35 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v955 : Index := Scalar.indexCast arg25
  let c32 : Index := 32#32
  let c0_258 : Index := 0#32
  ![v955.toNat, 32, 0]
def k0_off36 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v976 : Index := Scalar.indexCast arg25
  let c33 : Index := 33#32
  let c0_262 : Index := 0#32
  ![v976.toNat, 33, 0]
def k0_off37 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v997 : Index := Scalar.indexCast arg25
  let c34 : Index := 34#32
  let c0_266 : Index := 0#32
  ![v997.toNat, 34, 0]
def k0_off38 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1018 : Index := Scalar.indexCast arg25
  let c35 : Index := 35#32
  let c0_270 : Index := 0#32
  ![v1018.toNat, 35, 0]
def k0_off39 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1039 : Index := Scalar.indexCast arg25
  let c36 : Index := 36#32
  let c0_274 : Index := 0#32
  ![v1039.toNat, 36, 0]
def k0_off40 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1060 : Index := Scalar.indexCast arg25
  let c37 : Index := 37#32
  let c0_278 : Index := 0#32
  ![v1060.toNat, 37, 0]
def k0_off41 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1081 : Index := Scalar.indexCast arg25
  let c38 : Index := 38#32
  let c0_282 : Index := 0#32
  ![v1081.toNat, 38, 0]
def k0_off42 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1102 : Index := Scalar.indexCast arg25
  let c39 : Index := 39#32
  let c0_286 : Index := 0#32
  ![v1102.toNat, 39, 0]
def k0_off43 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1123 : Index := Scalar.indexCast arg25
  let c40 : Index := 40#32
  let c0_290 : Index := 0#32
  ![v1123.toNat, 40, 0]
def k0_off44 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1144 : Index := Scalar.indexCast arg25
  let c41 : Index := 41#32
  let c0_294 : Index := 0#32
  ![v1144.toNat, 41, 0]
def k0_off45 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1165 : Index := Scalar.indexCast arg25
  let c42 : Index := 42#32
  let c0_298 : Index := 0#32
  ![v1165.toNat, 42, 0]
def k0_off46 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1186 : Index := Scalar.indexCast arg25
  let c43 : Index := 43#32
  let c0_302 : Index := 0#32
  ![v1186.toNat, 43, 0]
def k0_off47 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1207 : Index := Scalar.indexCast arg25
  let c44 : Index := 44#32
  let c0_306 : Index := 0#32
  ![v1207.toNat, 44, 0]
def k0_off48 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1228 : Index := Scalar.indexCast arg25
  let c45 : Index := 45#32
  let c0_310 : Index := 0#32
  ![v1228.toNat, 45, 0]
def k0_off49 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1249 : Index := Scalar.indexCast arg25
  let c46 : Index := 46#32
  let c0_314 : Index := 0#32
  ![v1249.toNat, 46, 0]
def k0_off50 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1270 : Index := Scalar.indexCast arg25
  let c47 : Index := 47#32
  let c0_318 : Index := 0#32
  ![v1270.toNat, 47, 0]
def k0_off51 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1291 : Index := Scalar.indexCast arg25
  let c48 : Index := 48#32
  let c0_322 : Index := 0#32
  ![v1291.toNat, 48, 0]
def k0_off52 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1312 : Index := Scalar.indexCast arg25
  let c49 : Index := 49#32
  let c0_326 : Index := 0#32
  ![v1312.toNat, 49, 0]
def k0_off53 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1333 : Index := Scalar.indexCast arg25
  let c50 : Index := 50#32
  let c0_330 : Index := 0#32
  ![v1333.toNat, 50, 0]
def k0_off54 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1354 : Index := Scalar.indexCast arg25
  let c51 : Index := 51#32
  let c0_334 : Index := 0#32
  ![v1354.toNat, 51, 0]
def k0_off55 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1375 : Index := Scalar.indexCast arg25
  let c52 : Index := 52#32
  let c0_338 : Index := 0#32
  ![v1375.toNat, 52, 0]
def k0_off56 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1396 : Index := Scalar.indexCast arg25
  let c53 : Index := 53#32
  let c0_342 : Index := 0#32
  ![v1396.toNat, 53, 0]
def k0_off57 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1417 : Index := Scalar.indexCast arg25
  let c54 : Index := 54#32
  let c0_346 : Index := 0#32
  ![v1417.toNat, 54, 0]
def k0_off58 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1438 : Index := Scalar.indexCast arg25
  let c55 : Index := 55#32
  let c0_350 : Index := 0#32
  ![v1438.toNat, 55, 0]
def k0_off59 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1459 : Index := Scalar.indexCast arg25
  let c56 : Index := 56#32
  let c0_354 : Index := 0#32
  ![v1459.toNat, 56, 0]
def k0_off60 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1480 : Index := Scalar.indexCast arg25
  let c57 : Index := 57#32
  let c0_358 : Index := 0#32
  ![v1480.toNat, 57, 0]
def k0_off61 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1501 : Index := Scalar.indexCast arg25
  let c58 : Index := 58#32
  let c0_362 : Index := 0#32
  ![v1501.toNat, 58, 0]
def k0_off62 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1522 : Index := Scalar.indexCast arg25
  let c59 : Index := 59#32
  let c0_366 : Index := 0#32
  ![v1522.toNat, 59, 0]
def k0_off63 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1543 : Index := Scalar.indexCast arg25
  let c60 : Index := 60#32
  let c0_370 : Index := 0#32
  ![v1543.toNat, 60, 0]
def k0_off64 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1564 : Index := Scalar.indexCast arg25
  let c61 : Index := 61#32
  let c0_374 : Index := 0#32
  ![v1564.toNat, 61, 0]
def k0_off65 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1585 : Index := Scalar.indexCast arg25
  let c62 : Index := 62#32
  let c0_378 : Index := 0#32
  ![v1585.toNat, 62, 0]
def k0_off66 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1606 : Index := Scalar.indexCast arg25
  let c63 : Index := 63#32
  let c0_382 : Index := 0#32
  ![v1606.toNat, 63, 0]
def k0_off67 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1627 : Index := Scalar.indexCast arg25
  let c64 : Index := 64#32
  let c0_386 : Index := 0#32
  ![v1627.toNat, 64, 0]
def k0_off68 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1648 : Index := Scalar.indexCast arg25
  let c65 : Index := 65#32
  let c0_390 : Index := 0#32
  ![v1648.toNat, 65, 0]
def k0_off69 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1669 : Index := Scalar.indexCast arg25
  let c66 : Index := 66#32
  let c0_394 : Index := 0#32
  ![v1669.toNat, 66, 0]
def k0_off70 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1690 : Index := Scalar.indexCast arg25
  let c67 : Index := 67#32
  let c0_398 : Index := 0#32
  ![v1690.toNat, 67, 0]
def k0_off71 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1711 : Index := Scalar.indexCast arg25
  let c68 : Index := 68#32
  let c0_402 : Index := 0#32
  ![v1711.toNat, 68, 0]
def k0_off72 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1732 : Index := Scalar.indexCast arg25
  let c69 : Index := 69#32
  let c0_406 : Index := 0#32
  ![v1732.toNat, 69, 0]
def k0_off73 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1753 : Index := Scalar.indexCast arg25
  let c70 : Index := 70#32
  let c0_410 : Index := 0#32
  ![v1753.toNat, 70, 0]
def k0_off74 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1774 : Index := Scalar.indexCast arg25
  let c71 : Index := 71#32
  let c0_414 : Index := 0#32
  ![v1774.toNat, 71, 0]
def k0_off75 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1795 : Index := Scalar.indexCast arg25
  let c72 : Index := 72#32
  let c0_418 : Index := 0#32
  ![v1795.toNat, 72, 0]
def k0_off76 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1816 : Index := Scalar.indexCast arg25
  let c73 : Index := 73#32
  let c0_422 : Index := 0#32
  ![v1816.toNat, 73, 0]
def k0_off77 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1837 : Index := Scalar.indexCast arg25
  let c74 : Index := 74#32
  let c0_426 : Index := 0#32
  ![v1837.toNat, 74, 0]
def k0_off78 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1858 : Index := Scalar.indexCast arg25
  let c75 : Index := 75#32
  let c0_430 : Index := 0#32
  ![v1858.toNat, 75, 0]
def k0_off79 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1879 : Index := Scalar.indexCast arg25
  let c76 : Index := 76#32
  let c0_434 : Index := 0#32
  ![v1879.toNat, 76, 0]
def k0_off80 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1900 : Index := Scalar.indexCast arg25
  let c77 : Index := 77#32
  let c0_438 : Index := 0#32
  ![v1900.toNat, 77, 0]
def k0_off81 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1921 : Index := Scalar.indexCast arg25
  let c78 : Index := 78#32
  let c0_442 : Index := 0#32
  ![v1921.toNat, 78, 0]
def k0_off82 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1942 : Index := Scalar.indexCast arg25
  let c79 : Index := 79#32
  let c0_446 : Index := 0#32
  ![v1942.toNat, 79, 0]
def k0_off83 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1963 : Index := Scalar.indexCast arg25
  let c80 : Index := 80#32
  let c0_450 : Index := 0#32
  ![v1963.toNat, 80, 0]
def k0_off84 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v1984 : Index := Scalar.indexCast arg25
  let c81 : Index := 81#32
  let c0_454 : Index := 0#32
  ![v1984.toNat, 81, 0]
def k0_off85 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2005 : Index := Scalar.indexCast arg25
  let c82 : Index := 82#32
  let c0_458 : Index := 0#32
  ![v2005.toNat, 82, 0]
def k0_off86 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2026 : Index := Scalar.indexCast arg25
  let c83 : Index := 83#32
  let c0_462 : Index := 0#32
  ![v2026.toNat, 83, 0]
def k0_off87 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2047 : Index := Scalar.indexCast arg25
  let c84 : Index := 84#32
  let c0_466 : Index := 0#32
  ![v2047.toNat, 84, 0]
def k0_off88 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2068 : Index := Scalar.indexCast arg25
  let c85 : Index := 85#32
  let c0_470 : Index := 0#32
  ![v2068.toNat, 85, 0]
def k0_off89 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2089 : Index := Scalar.indexCast arg25
  let c86 : Index := 86#32
  let c0_474 : Index := 0#32
  ![v2089.toNat, 86, 0]
def k0_off90 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2110 : Index := Scalar.indexCast arg25
  let c87 : Index := 87#32
  let c0_478 : Index := 0#32
  ![v2110.toNat, 87, 0]
def k0_off91 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2131 : Index := Scalar.indexCast arg25
  let c88 : Index := 88#32
  let c0_482 : Index := 0#32
  ![v2131.toNat, 88, 0]
def k0_off92 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2152 : Index := Scalar.indexCast arg25
  let c89 : Index := 89#32
  let c0_486 : Index := 0#32
  ![v2152.toNat, 89, 0]
def k0_off93 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2173 : Index := Scalar.indexCast arg25
  let c90 : Index := 90#32
  let c0_490 : Index := 0#32
  ![v2173.toNat, 90, 0]
def k0_off94 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2194 : Index := Scalar.indexCast arg25
  let c91 : Index := 91#32
  let c0_494 : Index := 0#32
  ![v2194.toNat, 91, 0]
def k0_off95 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2215 : Index := Scalar.indexCast arg25
  let c92 : Index := 92#32
  let c0_498 : Index := 0#32
  ![v2215.toNat, 92, 0]
def k0_off96 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2236 : Index := Scalar.indexCast arg25
  let c93 : Index := 93#32
  let c0_502 : Index := 0#32
  ![v2236.toNat, 93, 0]
def k0_off97 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2257 : Index := Scalar.indexCast arg25
  let c94 : Index := 94#32
  let c0_506 : Index := 0#32
  ![v2257.toNat, 94, 0]
def k0_off98 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2278 : Index := Scalar.indexCast arg25
  let c95 : Index := 95#32
  let c0_510 : Index := 0#32
  ![v2278.toNat, 95, 0]
def k0_off99 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2299 : Index := Scalar.indexCast arg25
  let c96 : Index := 96#32
  let c0_514 : Index := 0#32
  ![v2299.toNat, 96, 0]
def k0_off100 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2320 : Index := Scalar.indexCast arg25
  let c97 : Index := 97#32
  let c0_518 : Index := 0#32
  ![v2320.toNat, 97, 0]
def k0_off101 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2341 : Index := Scalar.indexCast arg25
  let c98 : Index := 98#32
  let c0_522 : Index := 0#32
  ![v2341.toNat, 98, 0]
def k0_off102 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2362 : Index := Scalar.indexCast arg25
  let c99 : Index := 99#32
  let c0_526 : Index := 0#32
  ![v2362.toNat, 99, 0]
def k0_off103 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2383 : Index := Scalar.indexCast arg25
  let c100 : Index := 100#32
  let c0_530 : Index := 0#32
  ![v2383.toNat, 100, 0]
def k0_off104 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2404 : Index := Scalar.indexCast arg25
  let c101 : Index := 101#32
  let c0_534 : Index := 0#32
  ![v2404.toNat, 101, 0]
def k0_off105 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2425 : Index := Scalar.indexCast arg25
  let c102 : Index := 102#32
  let c0_538 : Index := 0#32
  ![v2425.toNat, 102, 0]
def k0_off106 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2446 : Index := Scalar.indexCast arg25
  let c103 : Index := 103#32
  let c0_542 : Index := 0#32
  ![v2446.toNat, 103, 0]
def k0_off107 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2467 : Index := Scalar.indexCast arg25
  let c104 : Index := 104#32
  let c0_546 : Index := 0#32
  ![v2467.toNat, 104, 0]
def k0_off108 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2488 : Index := Scalar.indexCast arg25
  let c105 : Index := 105#32
  let c0_550 : Index := 0#32
  ![v2488.toNat, 105, 0]
def k0_off109 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2509 : Index := Scalar.indexCast arg25
  let c106 : Index := 106#32
  let c0_554 : Index := 0#32
  ![v2509.toNat, 106, 0]
def k0_off110 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2530 : Index := Scalar.indexCast arg25
  let c107 : Index := 107#32
  let c0_558 : Index := 0#32
  ![v2530.toNat, 107, 0]
def k0_off111 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2551 : Index := Scalar.indexCast arg25
  let c108 : Index := 108#32
  let c0_562 : Index := 0#32
  ![v2551.toNat, 108, 0]
def k0_off112 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2572 : Index := Scalar.indexCast arg25
  let c109 : Index := 109#32
  let c0_566 : Index := 0#32
  ![v2572.toNat, 109, 0]
def k0_off113 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2593 : Index := Scalar.indexCast arg25
  let c110 : Index := 110#32
  let c0_570 : Index := 0#32
  ![v2593.toNat, 110, 0]
def k0_off114 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2614 : Index := Scalar.indexCast arg25
  let c111 : Index := 111#32
  let c0_574 : Index := 0#32
  ![v2614.toNat, 111, 0]
def k0_off115 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2635 : Index := Scalar.indexCast arg25
  let c112 : Index := 112#32
  let c0_578 : Index := 0#32
  ![v2635.toNat, 112, 0]
def k0_off116 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2656 : Index := Scalar.indexCast arg25
  let c113 : Index := 113#32
  let c0_582 : Index := 0#32
  ![v2656.toNat, 113, 0]
def k0_off117 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2677 : Index := Scalar.indexCast arg25
  let c114 : Index := 114#32
  let c0_586 : Index := 0#32
  ![v2677.toNat, 114, 0]
def k0_off118 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2698 : Index := Scalar.indexCast arg25
  let c115 : Index := 115#32
  let c0_590 : Index := 0#32
  ![v2698.toNat, 115, 0]
def k0_off119 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2719 : Index := Scalar.indexCast arg25
  let c116 : Index := 116#32
  let c0_594 : Index := 0#32
  ![v2719.toNat, 116, 0]
def k0_off120 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2740 : Index := Scalar.indexCast arg25
  let c117 : Index := 117#32
  let c0_598 : Index := 0#32
  ![v2740.toNat, 117, 0]
def k0_off121 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2761 : Index := Scalar.indexCast arg25
  let c118 : Index := 118#32
  let c0_602 : Index := 0#32
  ![v2761.toNat, 118, 0]
def k0_off122 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2782 : Index := Scalar.indexCast arg25
  let c119 : Index := 119#32
  let c0_606 : Index := 0#32
  ![v2782.toNat, 119, 0]
def k0_off123 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2803 : Index := Scalar.indexCast arg25
  let c120 : Index := 120#32
  let c0_610 : Index := 0#32
  ![v2803.toNat, 120, 0]
def k0_off124 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2824 : Index := Scalar.indexCast arg25
  let c121 : Index := 121#32
  let c0_614 : Index := 0#32
  ![v2824.toNat, 121, 0]
def k0_off125 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2845 : Index := Scalar.indexCast arg25
  let c122 : Index := 122#32
  let c0_618 : Index := 0#32
  ![v2845.toNat, 122, 0]
def k0_off126 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2866 : Index := Scalar.indexCast arg25
  let c123 : Index := 123#32
  let c0_622 : Index := 0#32
  ![v2866.toNat, 123, 0]
def k0_off127 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2887 : Index := Scalar.indexCast arg25
  let c124 : Index := 124#32
  let c0_626 : Index := 0#32
  ![v2887.toNat, 124, 0]
def k0_off128 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2908 : Index := Scalar.indexCast arg25
  let c125 : Index := 125#32
  let c0_630 : Index := 0#32
  ![v2908.toNat, 125, 0]
def k0_off129 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2929 : Index := Scalar.indexCast arg25
  let c126 : Index := 126#32
  let c0_634 : Index := 0#32
  ![v2929.toNat, 126, 0]
def k0_off130 (k0_t1 : Fin k0_t1_loop.trips) : Fin 3 → Nat :=
  let c0_i32_79 : BitVec 32 := 0#32
  let c1_i32_80 : BitVec 32 := 1#32
  let arg25 : BitVec 32 := Scf.iv c0_i32_79 c1_i32_80 k0_t1
  let v2950 : Index := Scalar.indexCast arg25
  let c127 : Index := 127#32
  let c0_638 : Index := 0#32
  ![v2950.toNat, 127, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x32x32x256 : Shape := ⟨4, ![4, 32, 32, 256]⟩
abbrev S256 : Shape := ⟨1, ![256]⟩
abbrev S256x512 : Shape := ⟨2, ![256, 512]⟩
abbrev S512 : Shape := ⟨1, ![512]⟩
abbrev S3x3x1x512 : Shape := ⟨4, ![3, 3, 1, 512]⟩
abbrev S512x144 : Shape := ⟨2, ![512, 144]⟩
abbrev S16x512 : Shape := ⟨2, ![16, 512]⟩
abbrev S512x64 : Shape := ⟨2, ![512, 64]⟩
abbrev S512x256 : Shape := ⟨2, ![512, 256]⟩
abbrev S_ : Shape := ⟨0, ![]⟩
abbrev S4x32x32 : Shape := ⟨3, ![4, 32, 32]⟩
abbrev S4x32x32x1 : Shape := ⟨4, ![4, 32, 32, 1]⟩
abbrev S1x1x1x256 : Shape := ⟨4, ![1, 1, 1, 256]⟩
abbrev S4x32x32x512 : Shape := ⟨4, ![4, 32, 32, 512]⟩
abbrev S1x1x1x512 : Shape := ⟨4, ![1, 1, 1, 512]⟩
abbrev S4x34x34x512 : Shape := ⟨4, ![4, 34, 34, 512]⟩
abbrev S4x1024x512 : Shape := ⟨3, ![4, 1024, 512]⟩
abbrev S4x1024x144 : Shape := ⟨3, ![4, 1024, 144]⟩
abbrev S4x1024x16 : Shape := ⟨3, ![4, 1024, 16]⟩
abbrev S4x1024x64 : Shape := ⟨3, ![4, 1024, 64]⟩
abbrev S1x1x512 : Shape := ⟨3, ![1, 1, 512]⟩
abbrev S4x512x64 : Shape := ⟨3, ![4, 512, 64]⟩
abbrev S1024x4x512 : Shape := ⟨3, ![1024, 4, 512]⟩
abbrev S1024x4x64 : Shape := ⟨3, ![1024, 4, 64]⟩
abbrev S1x4x512 : Shape := ⟨3, ![1, 4, 512]⟩
abbrev S4x512 : Shape := ⟨2, ![4, 512]⟩
abbrev S1x4x64 : Shape := ⟨3, ![1, 4, 64]⟩
abbrev S4x64 : Shape := ⟨2, ![4, 64]⟩
abbrev S4x512x1 : Shape := ⟨3, ![4, 512, 1]⟩
abbrev S1x512x64 : Shape := ⟨3, ![1, 512, 64]⟩
abbrev S4x1x64 : Shape := ⟨3, ![4, 1, 64]⟩
abbrev S1x512 : Shape := ⟨2, ![1, 512]⟩
abbrev S4x1024 : Shape := ⟨2, ![4, 1024]⟩
abbrev S4x1024x1 : Shape := ⟨3, ![4, 1024, 1]⟩
abbrev S4x1024x256 : Shape := ⟨3, ![4, 1024, 256]⟩
abbrev S1x1x256 : Shape := ⟨3, ![1, 1, 256]⟩

abbrev nBuf : Space → Nat
  | .hbm => 259
  | .vmem => 0
  | .smem => 0
  | _ => 0

abbrev hbmTy0_0 (i : Nat) : BufTy := match i % 128 with
  | 0 => ⟨S4x32x32x256, .f32⟩
  | 1 => ⟨S256, .f32⟩
  | 2 => ⟨S256, .f32⟩
  | 3 => ⟨S256x512, .f32⟩
  | 4 => ⟨S512, .f32⟩
  | 5 => ⟨S3x3x1x512, .f32⟩
  | 6 => ⟨S512, .f32⟩
  | 7 => ⟨S512x144, .f32⟩
  | 8 => ⟨S16x512, .f32⟩
  | 9 => ⟨S512, .f32⟩
  | 10 => ⟨S512x64, .f32⟩
  | 11 => ⟨S512, .f32⟩
  | 12 => ⟨S512, .f32⟩
  | 13 => ⟨S512, .f32⟩
  | 14 => ⟨S512x256, .f32⟩
  | 15 => ⟨S256, .f32⟩
  | 16 => ⟨S_, .f32⟩
  | 17 => ⟨S4x32x32, .f32⟩
  | 18 => ⟨S4x32x32x1, .f32⟩
  | 19 => ⟨S_, .f32⟩
  | 20 => ⟨S4x32x32x1, .f32⟩
  | 21 => ⟨S4x32x32x1, .f32⟩
  | 22 => ⟨S4x32x32x256, .f32⟩
  | 23 => ⟨S4x32x32x256, .f32⟩
  | 24 => ⟨S4x32x32x256, .f32⟩
  | 25 => ⟨S_, .f32⟩
  | 26 => ⟨S4x32x32, .f32⟩
  | 27 => ⟨S4x32x32x1, .f32⟩
  | 28 => ⟨S_, .f32⟩
  | 29 => ⟨S4x32x32x1, .f32⟩
  | 30 => ⟨S4x32x32x1, .f32⟩
  | 31 => ⟨S4x32x32x256, .f32⟩
  | 32 => ⟨S4x32x32x256, .f32⟩
  | 33 => ⟨S_, .f32⟩
  | 34 => ⟨S4x32x32x1, .f32⟩
  | 35 => ⟨S4x32x32x1, .f32⟩
  | 36 => ⟨S4x32x32x1, .f32⟩
  | 37 => ⟨S4x32x32x256, .f32⟩
  | 38 => ⟨S4x32x32x256, .f32⟩
  | 39 => ⟨S1x1x1x256, .f32⟩
  | 40 => ⟨S4x32x32x256, .f32⟩
  | 41 => ⟨S4x32x32x256, .f32⟩
  | 42 => ⟨S1x1x1x256, .f32⟩
  | 43 => ⟨S4x32x32x256, .f32⟩
  | 44 => ⟨S4x32x32x256, .f32⟩
  | 45 => ⟨S4x32x32x512, .f32⟩
  | 46 => ⟨S1x1x1x512, .f32⟩
  | 47 => ⟨S4x32x32x512, .f32⟩
  | 48 => ⟨S4x32x32x512, .f32⟩
  | 49 => ⟨S_, .i32⟩
  | 50 => ⟨S_, .f32⟩
  | 51 => ⟨S4x34x34x512, .f32⟩
  | 52 => ⟨S_, .f32⟩
  | 53 => ⟨S4x32x32x512, .f32⟩
  | 54 => ⟨S4x32x32x512, .f32⟩
  | 55 => ⟨S1x1x1x512, .f32⟩
  | 56 => ⟨S512, .f32⟩
  | 57 => ⟨S1x1x1x512, .f32⟩
  | 58 => ⟨S4x32x32x512, .f32⟩
  | 59 => ⟨S4x32x32x512, .f32⟩
  | 60 => ⟨S4x32x32x512, .f32⟩
  | 61 => ⟨S4x32x32x512, .f32⟩
  | 62 => ⟨S1x1x1x512, .f32⟩
  | 63 => ⟨S512, .f32⟩
  | 64 => ⟨S1x1x1x512, .f32⟩
  | 65 => ⟨S4x32x32x512, .f32⟩
  | 66 => ⟨S4x32x32x512, .f32⟩
  | 67 => ⟨S4x32x32x512, .f32⟩
  | 68 => ⟨S4x32x32x512, .f32⟩
  | 69 => ⟨S1x1x1x512, .f32⟩
  | 70 => ⟨S512, .f32⟩
  | 71 => ⟨S1x1x1x512, .f32⟩
  | 72 => ⟨S4x32x32x512, .f32⟩
  | 73 => ⟨S4x32x32x512, .f32⟩
  | 74 => ⟨S4x32x32x512, .f32⟩
  | 75 => ⟨S4x32x32x512, .f32⟩
  | 76 => ⟨S1x1x1x512, .f32⟩
  | 77 => ⟨S512, .f32⟩
  | 78 => ⟨S1x1x1x512, .f32⟩
  | 79 => ⟨S4x32x32x512, .f32⟩
  | 80 => ⟨S4x32x32x512, .f32⟩
  | 81 => ⟨S4x32x32x512, .f32⟩
  | 82 => ⟨S4x32x32x512, .f32⟩
  | 83 => ⟨S1x1x1x512, .f32⟩
  | 84 => ⟨S512, .f32⟩
  | 85 => ⟨S1x1x1x512, .f32⟩
  | 86 => ⟨S4x32x32x512, .f32⟩
  | 87 => ⟨S4x32x32x512, .f32⟩
  | 88 => ⟨S4x32x32x512, .f32⟩
  | 89 => ⟨S4x32x32x512, .f32⟩
  | 90 => ⟨S1x1x1x512, .f32⟩
  | 91 => ⟨S512, .f32⟩
  | 92 => ⟨S1x1x1x512, .f32⟩
  | 93 => ⟨S4x32x32x512, .f32⟩
  | 94 => ⟨S4x32x32x512, .f32⟩
  | 95 => ⟨S4x32x32x512, .f32⟩
  | 96 => ⟨S4x32x32x512, .f32⟩
  | 97 => ⟨S1x1x1x512, .f32⟩
  | 98 => ⟨S512, .f32⟩
  | 99 => ⟨S1x1x1x512, .f32⟩
  | 100 => ⟨S4x32x32x512, .f32⟩
  | 101 => ⟨S4x32x32x512, .f32⟩
  | 102 => ⟨S4x32x32x512, .f32⟩
  | 103 => ⟨S4x32x32x512, .f32⟩
  | 104 => ⟨S1x1x1x512, .f32⟩
  | 105 => ⟨S512, .f32⟩
  | 106 => ⟨S1x1x1x512, .f32⟩
  | 107 => ⟨S4x32x32x512, .f32⟩
  | 108 => ⟨S4x32x32x512, .f32⟩
  | 109 => ⟨S4x32x32x512, .f32⟩
  | 110 => ⟨S4x32x32x512, .f32⟩
  | 111 => ⟨S1x1x1x512, .f32⟩
  | 112 => ⟨S512, .f32⟩
  | 113 => ⟨S1x1x1x512, .f32⟩
  | 114 => ⟨S4x32x32x512, .f32⟩
  | 115 => ⟨S4x32x32x512, .f32⟩
  | 116 => ⟨S4x32x32x512, .f32⟩
  | 117 => ⟨S1x1x1x512, .f32⟩
  | 118 => ⟨S4x32x32x512, .f32⟩
  | 119 => ⟨S4x32x32x512, .f32⟩
  | 120 => ⟨S4x32x32x512, .f32⟩
  | 121 => ⟨S4x32x32x512, .f32⟩
  | 122 => ⟨S_, .f32⟩
  | 123 => ⟨S4x32x32x512, .f32⟩
  | 124 => ⟨S4x32x32x512, .f32⟩
  | 125 => ⟨S4x32x32x512, .f32⟩
  | 126 => ⟨S_, .f32⟩
  | 127 => ⟨S4x32x32x512, .f32⟩
  | _ => ⟨S4x32x32x256, .f32⟩

abbrev hbmTy0_1 (i : Nat) : BufTy := match i % 128 with
  | 0 => ⟨S4x32x32x512, .f32⟩
  | 1 => ⟨S4x32x32x512, .f32⟩
  | 2 => ⟨S_, .f32⟩
  | 3 => ⟨S4x32x32x512, .f32⟩
  | 4 => ⟨S4x32x32x512, .f32⟩
  | 5 => ⟨S_, .f32⟩
  | 6 => ⟨S4x32x32x512, .f32⟩
  | 7 => ⟨S4x32x32x512, .f32⟩
  | 8 => ⟨S4x32x32x512, .f32⟩
  | 9 => ⟨S4x1024x512, .f32⟩
  | 10 => ⟨S4x1024x144, .f32⟩
  | 11 => ⟨S4x1024x16, .f32⟩
  | 12 => ⟨S4x1024x64, .f32⟩
  | 13 => ⟨S4x1024x64, .f32⟩
  | 14 => ⟨S4x1024x512, .f32⟩
  | 15 => ⟨S1x1x512, .f32⟩
  | 16 => ⟨S4x1024x512, .f32⟩
  | 17 => ⟨S4x1024x512, .f32⟩
  | 18 => ⟨S_, .f32⟩
  | 19 => ⟨S4x1024x512, .f32⟩
  | 20 => ⟨S4x1024x512, .f32⟩
  | 21 => ⟨S4x1024x512, .f32⟩
  | 22 => ⟨S4x1024x512, .f32⟩
  | 23 => ⟨S4x1024x512, .i1⟩
  | 24 => ⟨S4x1024x512, .f32⟩
  | 25 => ⟨S4x1024x512, .f32⟩
  | 26 => ⟨S4x1024x512, .f32⟩
  | 27 => ⟨S4x1024x512, .f32⟩
  | 28 => ⟨S4x1024x512, .f32⟩
  | 29 => ⟨S4x1024x512, .f32⟩
  | 30 => ⟨S4x1024x512, .f32⟩
  | 31 => ⟨S4x1024x512, .f32⟩
  | 32 => ⟨S512x64, .f32⟩
  | 33 => ⟨S512x64, .f32⟩
  | 34 => ⟨S_, .f32⟩
  | 35 => ⟨S4x512x64, .f32⟩
  | 36 => ⟨S1024x4x512, .f32⟩
  | 37 => ⟨S1024x4x512, .f32⟩
  | 38 => ⟨S1024x4x64, .f32⟩
  | 39 => ⟨S1024x4x64, .f32⟩
  | 40 => ⟨S_, .f32⟩
  | 41 => ⟨S1024x4x512, .f32⟩
  | 42 => ⟨S_, .i32⟩
  | 43 => ⟨S1024x4x512, .f32⟩
  | 44 => ⟨S1024x4x512, .f32⟩
  | 45 => ⟨S1024x4x64, .f32⟩
  | 46 => ⟨S1024x4x64, .f32⟩
  | 47 => ⟨S512x64, .f32⟩
  | 48 => ⟨S512, .f32⟩
  | 49 => ⟨S_, .i32⟩
  | 50 => ⟨S4x512x64, .f32⟩
  | 51 => ⟨S1024x4x512, .f32⟩
  | 52 => ⟨S_, .i32⟩
  | 53 => ⟨S_, .i1⟩
  | 54 => ⟨S_, .i32⟩
  | 55 => ⟨S_, .i32⟩
  | 56 => ⟨S1x4x512, .f32⟩
  | 57 => ⟨S4x512, .f32⟩
  | 58 => ⟨S_, .i32⟩
  | 59 => ⟨S_, .i32⟩
  | 60 => ⟨S1x4x512, .f32⟩
  | 61 => ⟨S4x512, .f32⟩
  | 62 => ⟨S_, .i32⟩
  | 63 => ⟨S_, .i32⟩
  | 64 => ⟨S1x4x64, .f32⟩
  | 65 => ⟨S4x64, .f32⟩
  | 66 => ⟨S_, .i32⟩
  | 67 => ⟨S_, .i32⟩
  | 68 => ⟨S1x4x64, .f32⟩
  | 69 => ⟨S4x64, .f32⟩
  | 70 => ⟨S4x512x1, .f32⟩
  | 71 => ⟨S1x512x64, .f32⟩
  | 72 => ⟨S4x512x64, .f32⟩
  | 73 => ⟨S4x512x64, .f32⟩
  | 74 => ⟨S4x512x64, .f32⟩
  | 75 => ⟨S4x512x64, .f32⟩
  | 76 => ⟨S4x512x64, .f32⟩
  | 77 => ⟨S4x512, .f32⟩
  | 78 => ⟨S4x512x1, .f32⟩
  | 79 => ⟨S4x1x64, .f32⟩
  | 80 => ⟨S4x512x64, .f32⟩
  | 81 => ⟨S4x512x64, .f32⟩
  | 82 => ⟨S4x512x64, .f32⟩
  | 83 => ⟨S4x512x64, .f32⟩
  | 84 => ⟨S4x512, .f32⟩
  | 85 => ⟨S1x512, .f32⟩
  | 86 => ⟨S4x512, .f32⟩
  | 87 => ⟨S4x512, .f32⟩
  | 88 => ⟨S4x512, .f32⟩
  | 89 => ⟨S1x4x512, .f32⟩
  | 90 => ⟨S_, .i32⟩
  | 91 => ⟨S_, .i32⟩
  | 92 => ⟨S1024x4x512, .f32⟩
  | 93 => ⟨S_, .i32⟩
  | 94 => ⟨S_, .i32⟩
  | 95 => ⟨S4x1024x512, .f32⟩
  | 96 => ⟨S_, .f32⟩
  | 97 => ⟨S4x1024, .f32⟩
  | 98 => ⟨S4x1024x1, .f32⟩
  | 99 => ⟨S_, .f32⟩
  | 100 => ⟨S4x1024x1, .f32⟩
  | 101 => ⟨S4x1024x1, .f32⟩
  | 102 => ⟨S4x1024x512, .f32⟩
  | 103 => ⟨S4x1024x512, .f32⟩
  | 104 => ⟨S4x1024x512, .f32⟩
  | 105 => ⟨S_, .f32⟩
  | 106 => ⟨S4x1024, .f32⟩
  | 107 => ⟨S4x1024x1, .f32⟩
  | 108 => ⟨S_, .f32⟩
  | 109 => ⟨S4x1024x1, .f32⟩
  | 110 => ⟨S4x1024x1, .f32⟩
  | 111 => ⟨S4x1024x512, .f32⟩
  | 112 => ⟨S4x1024x512, .f32⟩
  | 113 => ⟨S_, .f32⟩
  | 114 => ⟨S4x1024x1, .f32⟩
  | 115 => ⟨S4x1024x1, .f32⟩
  | 116 => ⟨S4x1024x1, .f32⟩
  | 117 => ⟨S4x1024x512, .f32⟩
  | 118 => ⟨S4x1024x512, .f32⟩
  | 119 => ⟨S1x1x512, .f32⟩
  | 120 => ⟨S4x1024x512, .f32⟩
  | 121 => ⟨S4x1024x512, .f32⟩
  | 122 => ⟨S1x1x512, .f32⟩
  | 123 => ⟨S4x1024x512, .f32⟩
  | 124 => ⟨S4x1024x512, .f32⟩
  | 125 => ⟨S4x1024x256, .f32⟩
  | 126 => ⟨S1x1x256, .f32⟩
  | 127 => ⟨S4x1024x256, .f32⟩
  | _ => ⟨S4x32x32x256, .f32⟩

abbrev hbmTy0_2 (i : Nat) : BufTy := match i % 128 with
  | 0 => ⟨S4x1024x256, .f32⟩
  | 1 => ⟨S4x32x32x256, .f32⟩
  | 2 => ⟨S4x32x32x256, .f32⟩
  | _ => ⟨S4x32x32x256, .f32⟩

abbrev hbmTy (i : Nat) : BufTy := match i / 128 with
  | 0 => hbmTy0_0 i
  | 1 => hbmTy0_1 i
  | 2 => hbmTy0_2 i
  | _ => ⟨S4x32x32x256, .f32⟩

abbrev bufTy : (tb : Table) → Fin (tcTables nBuf tb) → BufTy
  | .hbm, ⟨i, _⟩ => hbmTy i
  | _, _ => ⟨S4x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_call0_v0 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_5 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_6 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_7 : Ref sig .tc := ⟨.hbm, 130, rfl⟩
abbrev main_v104 : Ref sig .tc := ⟨.hbm, 131, rfl⟩
abbrev main_v105 : Ref sig .tc := ⟨.hbm, 132, rfl⟩
abbrev main_cst_8 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call1_cst : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_call1_v3 : Ref sig .tc := ⟨.hbm, 150, rfl⟩
abbrev main_call1_v4 : Ref sig .tc := ⟨.hbm, 151, rfl⟩
abbrev main_call1_v5 : Ref sig .tc := ⟨.hbm, 152, rfl⟩
abbrev main_call1_v6 : Ref sig .tc := ⟨.hbm, 153, rfl⟩
abbrev main_call1_v7 : Ref sig .tc := ⟨.hbm, 154, rfl⟩
abbrev main_call1_v8 : Ref sig .tc := ⟨.hbm, 155, rfl⟩
abbrev main_call1_v9 : Ref sig .tc := ⟨.hbm, 156, rfl⟩
abbrev main_call1_v10 : Ref sig .tc := ⟨.hbm, 157, rfl⟩
abbrev main_call1_v11 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_9 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_cst_10 : Ref sig .tc := ⟨.hbm, 168, rfl⟩
abbrev main_v126 : Ref sig .tc := ⟨.hbm, 169, rfl⟩
abbrev main_c_11 : Ref sig .tc := ⟨.hbm, 170, rfl⟩
abbrev main_v127_0 : Ref sig .tc := ⟨.hbm, 171, rfl⟩
abbrev main_v127_1 : Ref sig .tc := ⟨.hbm, 172, rfl⟩
abbrev main_v127_2 : Ref sig .tc := ⟨.hbm, 173, rfl⟩
abbrev main_v127_3 : Ref sig .tc := ⟨.hbm, 174, rfl⟩
abbrev main_v127_4 : Ref sig .tc := ⟨.hbm, 175, rfl⟩
abbrev main_v127_5 : Ref sig .tc := ⟨.hbm, 176, rfl⟩
abbrev main_v127_6 : Ref sig .tc := ⟨.hbm, 177, rfl⟩
abbrev main_v127_7 : Ref sig .tc := ⟨.hbm, 178, rfl⟩
abbrev main_v127_8 : Ref sig .tc := ⟨.hbm, 179, rfl⟩
abbrev main_while0c_c_25 : Ref sig .tc := ⟨.hbm, 180, rfl⟩
abbrev main_while0c_v159 : Ref sig .tc := ⟨.hbm, 181, rfl⟩
abbrev main_while0b_call2_c : Ref sig .tc := ⟨.hbm, 182, rfl⟩
abbrev main_while0b_call2_c_0 : Ref sig .tc := ⟨.hbm, 183, rfl⟩
abbrev main_while0b_call2_v0 : Ref sig .tc := ⟨.hbm, 184, rfl⟩
abbrev main_while0b_v159 : Ref sig .tc := ⟨.hbm, 185, rfl⟩
abbrev main_while0b_call3_c : Ref sig .tc := ⟨.hbm, 186, rfl⟩
abbrev main_while0b_call3_c_0 : Ref sig .tc := ⟨.hbm, 187, rfl⟩
abbrev main_while0b_call3_v0 : Ref sig .tc := ⟨.hbm, 188, rfl⟩
abbrev main_while0b_v160 : Ref sig .tc := ⟨.hbm, 189, rfl⟩
abbrev main_while0b_call4_c : Ref sig .tc := ⟨.hbm, 190, rfl⟩
abbrev main_while0b_call4_c_0 : Ref sig .tc := ⟨.hbm, 191, rfl⟩
abbrev main_while0b_call4_v0 : Ref sig .tc := ⟨.hbm, 192, rfl⟩
abbrev main_while0b_v161 : Ref sig .tc := ⟨.hbm, 193, rfl⟩
abbrev main_while0b_call5_c : Ref sig .tc := ⟨.hbm, 194, rfl⟩
abbrev main_while0b_call5_c_0 : Ref sig .tc := ⟨.hbm, 195, rfl⟩
abbrev main_while0b_call5_v0 : Ref sig .tc := ⟨.hbm, 196, rfl⟩
abbrev main_while0b_v162 : Ref sig .tc := ⟨.hbm, 197, rfl⟩
abbrev main_while0b_v163 : Ref sig .tc := ⟨.hbm, 198, rfl⟩
abbrev main_while0b_v164 : Ref sig .tc := ⟨.hbm, 199, rfl⟩
abbrev main_while0b_v165 : Ref sig .tc := ⟨.hbm, 200, rfl⟩
abbrev main_while0b_v166 : Ref sig .tc := ⟨.hbm, 201, rfl⟩
abbrev main_while0b_v167 : Ref sig .tc := ⟨.hbm, 202, rfl⟩
abbrev main_while0b_v168 : Ref sig .tc := ⟨.hbm, 203, rfl⟩
abbrev main_while0b_v169 : Ref sig .tc := ⟨.hbm, 204, rfl⟩
abbrev main_while0b_v170 : Ref sig .tc := ⟨.hbm, 205, rfl⟩
abbrev main_while0b_v171 : Ref sig .tc := ⟨.hbm, 206, rfl⟩
abbrev main_while0b_v172 : Ref sig .tc := ⟨.hbm, 207, rfl⟩
abbrev main_while0b_v173 : Ref sig .tc := ⟨.hbm, 208, rfl⟩
abbrev main_while0b_v174 : Ref sig .tc := ⟨.hbm, 209, rfl⟩
abbrev main_while0b_v175 : Ref sig .tc := ⟨.hbm, 210, rfl⟩
abbrev main_while0b_v176 : Ref sig .tc := ⟨.hbm, 211, rfl⟩
abbrev main_while0b_v177 : Ref sig .tc := ⟨.hbm, 212, rfl⟩
abbrev main_while0b_v178 : Ref sig .tc := ⟨.hbm, 213, rfl⟩
abbrev main_while0b_v179 : Ref sig .tc := ⟨.hbm, 214, rfl⟩
abbrev main_while0b_v180 : Ref sig .tc := ⟨.hbm, 215, rfl⟩
abbrev main_while0b_v181 : Ref sig .tc := ⟨.hbm, 216, rfl⟩
abbrev main_while0b_call6_v0 : Ref sig .tc := ⟨.hbm, 217, rfl⟩
abbrev main_while0b_call6_c : Ref sig .tc := ⟨.hbm, 218, rfl⟩
abbrev main_while0b_call6_c_0 : Ref sig .tc := ⟨.hbm, 219, rfl⟩
abbrev main_while0b_v182 : Ref sig .tc := ⟨.hbm, 220, rfl⟩
abbrev main_while0b_c_25 : Ref sig .tc := ⟨.hbm, 221, rfl⟩
abbrev main_while0b_v183 : Ref sig .tc := ⟨.hbm, 222, rfl⟩
abbrev main_v128 : Ref sig .tc := ⟨.hbm, 223, rfl⟩
abbrev main_cst_12 : Ref sig .tc := ⟨.hbm, 224, rfl⟩
abbrev main_v129 : Ref sig .tc := ⟨.hbm, 225, rfl⟩
abbrev main_v130 : Ref sig .tc := ⟨.hbm, 226, rfl⟩
abbrev main_cst_13 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_cst_14 : Ref sig .tc := ⟨.hbm, 233, rfl⟩
abbrev main_v136 : Ref sig .tc := ⟨.hbm, 234, rfl⟩
abbrev main_v137 : Ref sig .tc := ⟨.hbm, 235, rfl⟩
abbrev main_cst_15 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_cst_16 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩

abbrev nD : Nat := 1
abbrev τ : Topo := Topo.v7x

variable {F : FTy → Type} [FloatOps F]

abbrev main_while0_count : Scf.Loop 32 := ⟨0#32, 1024#32, 1#32⟩
-- ==== Proof.KernelFrame.lean ====
/- The kernel's frame: the run of its one region, naming the inputs' blocks at every point and nothing of the output's. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer the host line after the region writes: nothing is said of what it holds. -/
def T0 : Finset (Ref sig .tc) := {main_v13}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option maxHeartbeats 1020000 in
/-- A run that keeps the arrays of the input windows and every buffer it does not write ends with the arguments as launched. -/
theorem keeps_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      (Pipeline.RDat.FramePostR.arr_in h c 7 rfl).trans ((hA c 7).trans (V_main_arg7 m c)),
      (Pipeline.RDat.FramePostR.arr_in h c 8 rfl).trans ((hA c 8).trans (V_main_arg8 m c)),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c),
      (Pipeline.RDat.FramePostR.arr_in h c 14 rfl).trans ((hA c 14).trans (V_main_arg14 m c)),
      ((h c).2 main_arg15 (Finset.mem_sdiff.mpr ⟨Pipeline.mem_restRefs_of main_arg15 (by decide) (by decide), by decide⟩)).trans (V_main_arg15 m c)⟩) h

/-- Each window's buffer at point `t`, and that it is whole. -/
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1024x256 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S8x128x512 .f32 := Memref.whole cc0_scratch0
abbrev scM0_1 : Memref sig .tc .vmem S8x128x512 .f32 := Memref.whole cc0_scratch1
abbrev scM0_2 : Memref sig .tc .vmem S8x128x512 .f32 := Memref.whole cc0_scratch2
abbrev scM0_3 : Memref sig .tc .vmem S8x128x64 .f32 := Memref.whole cc0_scratch3
abbrev scM0_4 : Memref sig .tc .vmem S8x128x64 .f32 := Memref.whole cc0_scratch4
abbrev scM0_5 : Memref sig .tc .vmem S8x128x512 .f32 := Memref.whole cc0_scratch5
abbrev scM0_6 : Memref sig .tc .vmem S64x512 .f32 := Memref.whole cc0_scratch6

/-- The invariant between points: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

set_option maxHeartbeats 1000000 in
/-- The body's triple: the inputs end as they were, the output block and the scratch at some contents. -/
theorem kernel_run (c : Dev nD) (i : grid0.Coords) (arg1 : Memref sig .tc .vmem S1x1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S9x512 .f32) (harg6 : arg6.IsWhole) (arg7 : Memref sig .tc .vmem S1x512 .f32) (harg7 : arg7.IsWhole) (arg8 : Memref sig .tc .vmem S512x144 .f32) (harg8 : arg8.IsWhole) (arg9 : Memref sig .tc .vmem S16x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S1x1024x256 .f32) (harg17 : arg17.IsWhole) (arg18 : Memref sig .tc .vmem S8x128x512 .f32) (harg18 : arg18.IsWhole) (arg19 : Memref sig .tc .vmem S8x128x512 .f32) (harg19 : arg19.IsWhole) (arg20 : Memref sig .tc .vmem S8x128x512 .f32) (harg20 : arg20.IsWhole) (arg21 : Memref sig .tc .vmem S8x128x64 .f32) (harg21 : arg21.IsWhole) (arg22 : Memref sig .tc .vmem S8x128x64 .f32) (harg22 : arg22.IsWhole) (arg23 : Memref sig .tc .vmem S8x128x512 .f32) (harg23 : arg23.IsWhole) (arg24 : Memref sig .tc .vmem S64x512 .f32) (harg24 : arg24.IsWhole)
    (x0 : Vec F S1x1024x256 .f32) (x1 : Vec F S1x256 .f32) (x2 : Vec F S1x256 .f32) (x3 : Vec F S256x512 .f32) (x4 : Vec F S1x512 .f32) (x5 : Vec F S9x512 .f32) (x6 : Vec F S1x512 .f32) (x7 : Vec F S512x144 .f32) (x8 : Vec F S16x512 .f32) (x9 : Vec F S1x512 .f32) (x10 : Vec F S64x512 .f32) (x11 : Vec F S1x512 .f32) (x12 : Vec F S1x512 .f32) (x13 : Vec F S1x512 .f32) (x14 : Vec F S512x256 .f32) (x15 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_vss_encoder_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_vss_encoder_layer_eq_skeleton]; unfold cc0_vss_encoder_layer_skel
    simp only [k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

/-- The output window is the one whose contents are not named. -/
def forgets0 : Fin 17 → Bool := fun w => w.val == 16

/-- The proof data: arrays as the region finds them, each input's buffer at its block after the body, nothing said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

/-- After the body each input buffer holds its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Before the body each input buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d))

/-- What it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d))

set_option maxHeartbeats 2400000 in
/-- The body meets its obligation at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernel_run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, H16, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run ends with the input arrays kept and every semaphore counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  keeps_of m ρ (fun c => (dats m 0 c).toRForget forgets0) (A_eq m) (run_main m ρ)

/-- The arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel.Hand

end
-- ==== Proof.Trip.lean ====
module

public import proofs.«01_k».proof.Proof.Gen.KernelIdeal.Loops

@[expose] public section

set_option maxRecDepth 16384

noncomputable section

open Idealize.ShloMosaic Idealize.ShloMosaic.TcCoe Idealize.ShloMosaic.Tactic

namespace Cert.KernelIdeal.Trip

open Cert.KernelIdeal Cert.KernelIdeal.Gen

variable {F : FTy → Type} [FloatOps F] [Named F]

/-- Row `j` of a chunk of 128 rows lies inside it. -/
theorem row_slices (j : ℕ) : S128x512.Slices ![j % 128, 0] S1x512 := by
  have hj : j % 128 < 128 := Nat.mod_lt _ (by decide)
  refine ⟨rfl, fun a => ?_⟩
  revert a; refine Fin.forall_fin_two.2 ⟨?_, ?_⟩
  · show j % 128 + 1 ≤ 128; omega
  · show 0 + 512 ≤ 512; omega

/-- Column `j` of a transposed chunk lies inside it. -/
theorem col_slices (j : ℕ) : S64x128.Slices ![0, j % 128] S64x1 := by
  have hj : j % 128 < 128 := Nat.mod_lt _ (by decide)
  refine ⟨rfl, fun a => ?_⟩
  revert a; refine Fin.forall_fin_two.2 ⟨?_, ?_⟩
  · show 0 + 64 ≤ 64; omega
  · show j % 128 + 1 ≤ 128; omega

/-- The offset at which trip `k` stores row `j` of its chunk. -/
def rowOff (k : Fin k0_t1_loop.trips) (j : ℕ) : Fin 3 → ℕ :=
  ![BitVec.toNat (Scalar.indexCast (Scf.iv 0#32 1#32 k.val)), j % 128, 0]

/-- The stored row lies inside the scratch buffer. -/
theorem rowOff_inb (k : Fin k0_t1_loop.trips) (j : ℕ) : ∀ a, rowOff k j a + S1x1x512.size a ≤ S8x128x512.size a := by
  have hj : j % 128 < 128 := Nat.mod_lt _ (by decide)
  have h0 : BitVec.toNat (Scalar.indexCast (Scf.iv 0#32 1#32 k.val)) + 1 ≤ 8 := k0_off3_inb k 0
  refine Fin.forall_fin_succ.2 ⟨h0, Fin.forall_fin_two.2 ⟨?_, ?_⟩⟩
  · show j % 128 + 1 ≤ 128; omega
  · show 0 + 512 ≤ 512; omega

/-- One step of the recurrence: the state times the decay of row `j`, plus the outer product of the
    row's input with its `B` column. -/
def stepH (dt dtx : FVec F S128x512 .f32) (bT : FVec F S64x128 .f32) (a : Vec F S64x512 .f32) (j : ℕ)
    (h : FVec F S64x512 .f32) : FVec F S64x512 .f32 :=
  addf (mulf (exp2 (mulf (broadcastTo S64x512 (extractStridedSlice S1x512 ![j % 128, 0] dt (row_slices j)) broadcasts_S1x512_S64x512) a)) h)
    (mulf (broadcastTo S64x512 (extractStridedSlice S1x512 ![j % 128, 0] dtx (row_slices j)) broadcasts_S1x512_S64x512)
      (broadcastTo S64x512 (extractStridedSlice S64x1 ![0, j % 128] bT (col_slices j)) broadcasts_S64x1_S64x512))

/-- The state after the first `n` steps of a trip. -/
def stateAt (dt dtx : FVec F S128x512 .f32) (bT : FVec F S64x128 .f32) (a : Vec F S64x512 .f32)
    (h : FVec F S64x512 .f32) (n : ℕ) : FVec F S64x512 .f32 :=
  Nat.rec h (fun j hj => stepH dt dtx bT a j hj) n

/-- The row stored for a state: its `C` column contracted over the state axis. -/
def rowOut (cT : FVec F S64x128 .f32) (j : ℕ) (h : FVec F S64x512 .f32) : FVec F S1x1x512 .f32 :=
  shapeCast S1x1x512 (shapeCast S1x512
    (multiReduction .add [0] S512 (mulf h (broadcastTo S64x512 (extractStridedSlice S64x1 ![0, j % 128] cT (col_slices j)) broadcasts_S64x1_S64x512))
      0x00000000#32 reduces_S64x512_S512 (.inl rfl) rfl) shapeCasts_S512_S1x512) shapeCasts_S1x512_S1x1x512

/-- The rows trip `k` has stored after its first `n` steps, last first. -/
def rowsAt (k : Fin k0_t1_loop.trips) (dt dtx : FVec F S128x512 .f32) (bT cT : FVec F S64x128 .f32) (a : Vec F S64x512 .f32)
    (h : FVec F S64x512 .f32) (n : ℕ) : List (View.Piece (Elt F) S8x128x512 .f32) :=
  Nat.rec [] (fun j l => ⟨Rect.unit (s := S8x128x512) (rowOff k j) S1x1x512.size (rowOff_inb k j), rowOut cT j (stateAt dt dtx bT a h (j + 1))⟩ :: l) n

/-- What trip `k` yields is the state after 128 steps. -/
theorem trip_yield (𝒱 : Variants) (c : Dev nD) (bd : Option 𝒱.V) (i : grid0.Coords) (arg1 : Memref sig .tc .vmem S1x1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S9x512 .f32) (harg6 : arg6.IsWhole) (arg7 : Memref sig .tc .vmem S1x512 .f32) (harg7 : arg7.IsWhole) (arg8 : Memref sig .tc .vmem S512x144 .f32) (harg8 : arg8.IsWhole) (arg9 : Memref sig .tc .vmem S16x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S1x1024x256 .f32) (harg17 : arg17.IsWhole) (arg18 : Memref sig .tc .vmem S8x128x512 .f32) (harg18 : arg18.IsWhole) (arg19 : Memref sig .tc .vmem S8x128x512 .f32) (harg19 : arg19.IsWhole) (arg20 : Memref sig .tc .vmem S8x128x512 .f32) (harg20 : arg20.IsWhole) (arg21 : Memref sig .tc .vmem S8x128x64 .f32) (harg21 : arg21.IsWhole) (arg22 : Memref sig .tc .vmem S8x128x64 .f32) (harg22 : arg22.IsWhole) (arg23 : Memref sig .tc .vmem S8x128x512 .f32) (harg23 : arg23.IsWhole) (arg24 : Memref sig .tc .vmem S64x512 .f32) (harg24 : arg24.IsWhole) (v200 : FVec F S64x512 .f32) (v201 : Vec F S64x512 .f32) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg24 : BufTy.Contents (Elt F) arg24.view.ty) (k : Fin k0_t1_loop.trips) (acc : FVec F S64x512 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 k acc
      = stateAt (k0_pay2 (arg19.view.readAt (Elt F) (Rect.unit (s := S8x128x512) (k0_off1 k) S1x128x512.size (k0_off1_inb k)).toLoadRect X_arg19))
          (k0_pay3 (arg20.view.readAt (Elt F) (Rect.unit (s := S8x128x512) (k0_off1 k) S1x128x512.size (k0_off1_inb k)).toLoadRect X_arg20))
          (k0_pay4 (arg21.view.readAt (Elt F) (Rect.unit (s := S8x128x64) (k0_off2 k) S1x128x64.size (k0_off2_inb k)).toLoadRect X_arg21))
          (arg24.view.readAt (Elt F) (Rect.unit (s := S64x512) ![0, 0] S64x512.size inb_S64x512_S64x512_0_0).toLoadRect X_arg24) acc 128 := by
  unfold tripR_k0_t1 trip_k0_t1
  rfl

/-- The rows trip `k` stores are the ones after 128 steps. -/
theorem trip_rows (𝒱 : Variants) (c : Dev nD) (bd : Option 𝒱.V) (i : grid0.Coords) (arg1 : Memref sig .tc .vmem S1x1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S9x512 .f32) (harg6 : arg6.IsWhole) (arg7 : Memref sig .tc .vmem S1x512 .f32) (harg7 : arg7.IsWhole) (arg8 : Memref sig .tc .vmem S512x144 .f32) (harg8 : arg8.IsWhole) (arg9 : Memref sig .tc .vmem S16x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S1x1024x256 .f32) (harg17 : arg17.IsWhole) (arg18 : Memref sig .tc .vmem S8x128x512 .f32) (harg18 : arg18.IsWhole) (arg19 : Memref sig .tc .vmem S8x128x512 .f32) (harg19 : arg19.IsWhole) (arg20 : Memref sig .tc .vmem S8x128x512 .f32) (harg20 : arg20.IsWhole) (arg21 : Memref sig .tc .vmem S8x128x64 .f32) (harg21 : arg21.IsWhole) (arg22 : Memref sig .tc .vmem S8x128x64 .f32) (harg22 : arg22.IsWhole) (arg23 : Memref sig .tc .vmem S8x128x512 .f32) (harg23 : arg23.IsWhole) (arg24 : Memref sig .tc .vmem S64x512 .f32) (harg24 : arg24.IsWhole) (v200 : FVec F S64x512 .f32) (v201 : Vec F S64x512 .f32) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg24 : BufTy.Contents (Elt F) arg24.view.ty) (k : Fin k0_t1_loop.trips) (acc : FVec F S64x512 .f32) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 k acc
      = rowsAt k (k0_pay2 (arg19.view.readAt (Elt F) (Rect.unit (s := S8x128x512) (k0_off1 k) S1x128x512.size (k0_off1_inb k)).toLoadRect X_arg19))
          (k0_pay3 (arg20.view.readAt (Elt F) (Rect.unit (s := S8x128x512) (k0_off1 k) S1x128x512.size (k0_off1_inb k)).toLoadRect X_arg20))
          (k0_pay4 (arg21.view.readAt (Elt F) (Rect.unit (s := S8x128x64) (k0_off2 k) S1x128x64.size (k0_off2_inb k)).toLoadRect X_arg21))
          (k0_pay5 (arg22.view.readAt (Elt F) (Rect.unit (s := S8x128x64) (k0_off2 k) S1x128x64.size (k0_off2_inb k)).toLoadRect X_arg22))
          (arg24.view.readAt (Elt F) (Rect.unit (s := S64x512) ![0, 0] S64x512.size inb_S64x512_S64x512_0_0).toLoadRect X_arg24) acc 128 := by
  unfold tripL_k0_t1 trip_k0_t1
  rfl

end Cert.KernelIdeal.Trip

end
-- ==== Proof.Loop.lean ====
module

public import proofs.«01_k».proof.Proof.Trip
public import Idealize.ShloMosaic.Lib.WritesUnit
public import Idealize.ShloMosaic.Lib.VecWindow
public import Idealize.ShloMosaic.Lib.Pointwise

@[expose] public section

set_option maxRecDepth 16384

noncomputable section

open Idealize.ShloMosaic Idealize.ShloMosaic.TcCoe Idealize.ShloMosaic.Tactic

namespace Cert.KernelIdeal.Trip

open Cert.KernelIdeal Cert.KernelIdeal.Gen

variable {F : FTy → Type} [FloatOps F] [Named F]

/-- The recurrence runs over eight chunks. -/
theorem trips_eq : k0_t1_loop.trips = 8 := by decide

/-- The word trip `k` stores at is `k`. -/
theorem trip_word (k : Fin k0_t1_loop.trips) : BitVec.toNat (Scalar.indexCast (Scf.iv 0#32 1#32 k.val)) = k.val := by
  have h : ∀ k : Fin k0_t1_loop.trips, BitVec.toNat (Scalar.indexCast (Scf.iv 0#32 1#32 k.val)) = k.val := by decide
  exact h k

/-- The state before chunk `n`. -/
def hAt (dt dtx : Fin k0_t1_loop.trips → FVec F S128x512 .f32) (bT : Fin k0_t1_loop.trips → FVec F S64x128 .f32)
    (a : Vec F S64x512 .f32) (h0 : FVec F S64x512 .f32) : ℕ → FVec F S64x512 .f32
  | 0 => h0
  | n + 1 => if hn : n < k0_t1_loop.trips then stateAt (dt ⟨n, hn⟩) (dtx ⟨n, hn⟩) (bT ⟨n, hn⟩) a (hAt dt dtx bT a h0 n) 128
      else hAt dt dtx bT a h0 n

/-- The row of outputs at position `j` of chunk `k`. -/
def ysRow (dt dtx : Fin k0_t1_loop.trips → FVec F S128x512 .f32) (bT cT : Fin k0_t1_loop.trips → FVec F S64x128 .f32)
    (a : Vec F S64x512 .f32) (h0 : FVec F S64x512 .f32) (k : Fin k0_t1_loop.trips) (j : ℕ) : FVec F S1x1x512 .f32 :=
  rowOut (cT k) j (stateAt (dt k) (dtx k) (bT k) a (hAt dt dtx bT a h0 k.val) (j + 1))

/-- All the outputs of the recurrence, chunk by chunk. -/
def ysAll (dt dtx : Fin k0_t1_loop.trips → FVec F S128x512 .f32) (bT cT : Fin k0_t1_loop.trips → FVec F S64x128 .f32)
    (a : Vec F S64x512 .f32) (h0 : FVec F S64x512 .f32) : FVec F S8x128x512 .f32 := fun y =>
  ysRow dt dtx bT cT a h0 ⟨(y 0).val, trips_eq ▸ (y 0).isLt⟩ (y 1).val (ix3 (0 : Fin 1) (0 : Fin 1) (y 2))

/-- Reading the output buffer after the first `n` rows of trip `k`: the rows stored so far, and elsewhere what was
    there before. -/
theorem read_rows (v : View sig .tc .vmem S8x128x512 .f32) (f : v.ty.Contents (Elt F)) (k : Fin k0_t1_loop.trips)
    (dt dtx : FVec F S128x512 .f32) (bT cT : FVec F S64x128 .f32) (a : Vec F S64x512 .f32) (h : FVec F S64x512 .f32)
    (L : List (View.Piece (Elt F) S8x128x512 .f32)) (y : S8x128x512.Idx) (n : ℕ) (hn : n ≤ 128) :
    v.read (Elt F) (v.writes (Elt F) f (rowsAt k dt dtx bT cT a h n ++ L)) y
      = if (y 0).val = k.val ∧ (y 1).val < n then
          rowOut cT (y 1).val (stateAt dt dtx bT a h ((y 1).val + 1)) (ix3 (0 : Fin 1) (0 : Fin 1) (y 2))
        else v.read (Elt F) (v.writes (Elt F) f L) y := by
  induction n with
  | zero => rw [if_neg (by omega)]; rfl
  | succ n ih =>
    have ih := ih (by omega)
    have hoff : rowOff k n = ![k.val, n, 0] := by
      unfold rowOff; rw [trip_word, Nat.mod_eq_of_lt (by omega)]
    show v.read (Elt F) (v.writes (Elt F) f (⟨Rect.unit (s := S8x128x512) (rowOff k n) S1x1x512.size (rowOff_inb k n), rowOut cT n (stateAt dt dtx bT a h (n + 1))⟩
      :: (rowsAt k dt dtx bT cT a h n ++ L))) y = _
    by_cases h0 : (y 0).val = k.val
    · by_cases h1 : (y 1).val = n
      · rw [if_pos ⟨h0, by omega⟩]
        subst h1
        exact View.read_writes_cons_unit_of_mem v f _ _ _ y (ix3 (0 : Fin 1) (0 : Fin 1) (y 2)) hoff (by
          refine Fin.forall_fin_succ.2 ⟨?_, Fin.forall_fin_two.2 ⟨?_, ?_⟩⟩
          · show (y 0).val = k.val + 0; omega
          · show (y 1).val = (y 1).val + 0; omega
          · show (y 2).val = 0 + (y 2).val; omega)
      · rw [View.read_writes_cons_unit_of_not_mem v f _ _ _ y hoff 1 (by
          show (y 1).val < n ∨ n + 1 ≤ (y 1).val; omega), ih]
        by_cases h2 : (y 1).val < n
        · rw [if_pos ⟨h0, h2⟩, if_pos ⟨h0, by omega⟩]
        · rw [if_neg (by omega), if_neg (by omega)]
    · rw [View.read_writes_cons_unit_of_not_mem v f _ _ _ y hoff 0 (by
        show (y 0).val < k.val ∨ k.val + 1 ≤ (y 0).val; omega), ih, if_neg (by omega), if_neg (by omega)]

/-- After `n` trips the carried state is `hAt … n`, and the output buffer holds the outputs of the first `n` chunks. -/
theorem loop_state (𝒱 : Variants) (c : Dev nD) (bd : Option 𝒱.V) (i : grid0.Coords) (arg1 : Memref sig .tc .vmem S1x1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S9x512 .f32) (harg6 : arg6.IsWhole) (arg7 : Memref sig .tc .vmem S1x512 .f32) (harg7 : arg7.IsWhole) (arg8 : Memref sig .tc .vmem S512x144 .f32) (harg8 : arg8.IsWhole) (arg9 : Memref sig .tc .vmem S16x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S1x1024x256 .f32) (harg17 : arg17.IsWhole) (arg18 : Memref sig .tc .vmem S8x128x512 .f32) (harg18 : arg18.IsWhole) (arg19 : Memref sig .tc .vmem S8x128x512 .f32) (harg19 : arg19.IsWhole) (arg20 : Memref sig .tc .vmem S8x128x512 .f32) (harg20 : arg20.IsWhole) (arg21 : Memref sig .tc .vmem S8x128x64 .f32) (harg21 : arg21.IsWhole) (arg22 : Memref sig .tc .vmem S8x128x64 .f32) (harg22 : arg22.IsWhole) (arg23 : Memref sig .tc .vmem S8x128x512 .f32) (harg23 : arg23.IsWhole) (arg24 : Memref sig .tc .vmem S64x512 .f32) (harg24 : arg24.IsWhole) (v200 : FVec F S64x512 .f32) (v201 : Vec F S64x512 .f32) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg24 : BufTy.Contents (Elt F) arg24.view.ty) (init : FVec F S64x512 .f32) (n : ℕ) (hn : n ≤ k0_t1_loop.trips) :
    let dt := fun k : Fin k0_t1_loop.trips => k0_pay2 (arg19.view.readAt (Elt F) (Rect.unit (s := S8x128x512) (k0_off1 k) S1x128x512.size (k0_off1_inb k)).toLoadRect X_arg19)
    let dtx := fun k : Fin k0_t1_loop.trips => k0_pay3 (arg20.view.readAt (Elt F) (Rect.unit (s := S8x128x512) (k0_off1 k) S1x128x512.size (k0_off1_inb k)).toLoadRect X_arg20)
    let bT := fun k : Fin k0_t1_loop.trips => k0_pay4 (arg21.view.readAt (Elt F) (Rect.unit (s := S8x128x64) (k0_off2 k) S1x128x64.size (k0_off2_inb k)).toLoadRect X_arg21)
    let cT := fun k : Fin k0_t1_loop.trips => k0_pay5 (arg22.view.readAt (Elt F) (Rect.unit (s := S8x128x64) (k0_off2 k) S1x128x64.size (k0_off2_inb k)).toLoadRect X_arg22)
    let a := arg24.view.readAt (Elt F) (Rect.unit (s := S64x512) ![0, 0] S64x512.size inb_S64x512_S64x512_0_0).toLoadRect X_arg24
    let r := st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 init n
    r.1 = hAt dt dtx bT a init n
      ∧ ∀ (v : View sig .tc .vmem S8x128x512 .f32) (f : v.ty.Contents (Elt F)) (y : S8x128x512.Idx), (y 0).val < n →
          v.read (Elt F) (v.writes (Elt F) f r.2) y = ysAll dt dtx bT cT a init y := by
  intro dt dtx bT cT a
  induction n with
  | zero => exact ⟨rfl, fun v f y hy => absurd hy (Nat.not_lt_zero _)⟩
  | succ n ih =>
    obtain ⟨ih1, ih2⟩ := ih (by omega)
    intro r
    have hr := st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 init ⟨n, hn⟩
    have e1 : r.1 = stateAt (dt ⟨n, hn⟩) (dtx ⟨n, hn⟩) (bT ⟨n, hn⟩) a (hAt dt dtx bT a init n) 128 := by
      rw [show r = _ from hr, trip_yield, ih1]
    have e2 : r.2 = rowsAt ⟨n, hn⟩ (dt ⟨n, hn⟩) (dtx ⟨n, hn⟩) (bT ⟨n, hn⟩) (cT ⟨n, hn⟩) a (hAt dt dtx bT a init n) 128 ++ (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 init n).2 := by
      rw [show r = _ from hr, trip_rows, ih1]
    refine ⟨?_, fun v f y hy => ?_⟩
    · rw [e1, hAt, dif_pos (show n < k0_t1_loop.trips from hn)]
    · rw [e2, read_rows v f ⟨n, hn⟩ _ _ _ _ _ _ _ y 128 (le_refl _)]
      by_cases h0 : (y 0).val = n
      · rw [if_pos ⟨h0, (y 1).isLt⟩]
        unfold ysAll ysRow
        subst h0; rfl
      · rw [if_neg (fun h => h0 h.1)]
        exact ih2 v f y (by omega)

/-- After the whole loop the output buffer reads the outputs of the recurrence, whatever it held before. -/
theorem loop_read (𝒱 : Variants) (c : Dev nD) (bd : Option 𝒱.V) (i : grid0.Coords) (arg1 : Memref sig .tc .vmem S1x1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S9x512 .f32) (harg6 : arg6.IsWhole) (arg7 : Memref sig .tc .vmem S1x512 .f32) (harg7 : arg7.IsWhole) (arg8 : Memref sig .tc .vmem S512x144 .f32) (harg8 : arg8.IsWhole) (arg9 : Memref sig .tc .vmem S16x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S1x1024x256 .f32) (harg17 : arg17.IsWhole) (arg18 : Memref sig .tc .vmem S8x128x512 .f32) (harg18 : arg18.IsWhole) (arg19 : Memref sig .tc .vmem S8x128x512 .f32) (harg19 : arg19.IsWhole) (arg20 : Memref sig .tc .vmem S8x128x512 .f32) (harg20 : arg20.IsWhole) (arg21 : Memref sig .tc .vmem S8x128x64 .f32) (harg21 : arg21.IsWhole) (arg22 : Memref sig .tc .vmem S8x128x64 .f32) (harg22 : arg22.IsWhole) (arg23 : Memref sig .tc .vmem S8x128x512 .f32) (harg23 : arg23.IsWhole) (arg24 : Memref sig .tc .vmem S64x512 .f32) (harg24 : arg24.IsWhole) (v200 : FVec F S64x512 .f32) (v201 : Vec F S64x512 .f32) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg24 : BufTy.Contents (Elt F) arg24.view.ty) (init : FVec F S64x512 .f32)
    (v : View sig .tc .vmem S8x128x512 .f32) (f : v.ty.Contents (Elt F)) :
    v.read (Elt F) (v.writes (Elt F) f (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 init k0_t1_loop.trips).2)
      = ysAll (fun k : Fin k0_t1_loop.trips => k0_pay2 (arg19.view.readAt (Elt F) (Rect.unit (s := S8x128x512) (k0_off1 k) S1x128x512.size (k0_off1_inb k)).toLoadRect X_arg19))
          (fun k : Fin k0_t1_loop.trips => k0_pay3 (arg20.view.readAt (Elt F) (Rect.unit (s := S8x128x512) (k0_off1 k) S1x128x512.size (k0_off1_inb k)).toLoadRect X_arg20))
          (fun k : Fin k0_t1_loop.trips => k0_pay4 (arg21.view.readAt (Elt F) (Rect.unit (s := S8x128x64) (k0_off2 k) S1x128x64.size (k0_off2_inb k)).toLoadRect X_arg21))
          (fun k : Fin k0_t1_loop.trips => k0_pay5 (arg22.view.readAt (Elt F) (Rect.unit (s := S8x128x64) (k0_off2 k) S1x128x64.size (k0_off2_inb k)).toLoadRect X_arg22))
          (arg24.view.readAt (Elt F) (Rect.unit (s := S64x512) ![0, 0] S64x512.size inb_S64x512_S64x512_0_0).toLoadRect X_arg24) init :=
  funext fun y => (loop_state 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v200 v201 X_arg19 X_arg20 X_arg21 X_arg22 X_arg24 init k0_t1_loop.trips (le_refl _)).2 v f y (trips_eq ▸ (y 0).isLt)

end Cert.KernelIdeal.Trip

end
-- ==== Proof.Block.lean ====
module

public import proofs.«01_k».proof.Proof.Loop
public import Idealize.ShloMosaic.Lib.Pipeline.FrameBody

@[expose] public section

set_option maxRecDepth 16384

noncomputable section

open Idealize.ShloMosaic Idealize.ShloMosaic.TcCoe Idealize.ShloMosaic.Tactic

namespace Cert.KernelIdeal.Block

open Cert.KernelIdeal Cert.KernelIdeal.Gen Cert.KernelIdeal.Trip

variable {F : FTy → Type} [FloatOps F] [Named F]

/-- Row 0 of the nine convolution rows; the next eight are likewise. -/
def w0 (w : Vec F S9x512 .f32) : Vec F S1x512 .f32 := View.ld (Val := Elt F) w (Rect.unit (s := S9x512) ![0, 0] S1x512.size inb_S9x512_S1x512_0_0)
def w1 (w : Vec F S9x512 .f32) : Vec F S1x512 .f32 := View.ld (Val := Elt F) w (Rect.unit (s := S9x512) ![1, 0] S1x512.size inb_S9x512_S1x512_1_0)
def w2 (w : Vec F S9x512 .f32) : Vec F S1x512 .f32 := View.ld (Val := Elt F) w (Rect.unit (s := S9x512) ![2, 0] S1x512.size inb_S9x512_S1x512_2_0)
def w3 (w : Vec F S9x512 .f32) : Vec F S1x512 .f32 := View.ld (Val := Elt F) w (Rect.unit (s := S9x512) ![3, 0] S1x512.size inb_S9x512_S1x512_3_0)
def w4 (w : Vec F S9x512 .f32) : Vec F S1x512 .f32 := View.ld (Val := Elt F) w (Rect.unit (s := S9x512) ![4, 0] S1x512.size inb_S9x512_S1x512_4_0)
def w5 (w : Vec F S9x512 .f32) : Vec F S1x512 .f32 := View.ld (Val := Elt F) w (Rect.unit (s := S9x512) ![5, 0] S1x512.size inb_S9x512_S1x512_5_0)
def w6 (w : Vec F S9x512 .f32) : Vec F S1x512 .f32 := View.ld (Val := Elt F) w (Rect.unit (s := S9x512) ![6, 0] S1x512.size inb_S9x512_S1x512_6_0)
def w7 (w : Vec F S9x512 .f32) : Vec F S1x512 .f32 := View.ld (Val := Elt F) w (Rect.unit (s := S9x512) ![7, 0] S1x512.size inb_S9x512_S1x512_7_0)
def w8 (w : Vec F S9x512 .f32) : Vec F S1x512 .f32 := View.ld (Val := Elt F) w (Rect.unit (s := S9x512) ![8, 0] S1x512.size inb_S9x512_S1x512_8_0)

/-- The lane width the column masks divide by. -/
def lane : BitVec 32 := 32#32

/-- The two column masks. -/
def maskL : FVec F S1024x1 .f32 := k0_pay338 lane k0_pay335 k0_pay336
def maskR : FVec F S1024x1 .f32 := k0_pay339 lane k0_pay335 k0_pay336

/-- The sum of the convolution's left and middle columns. -/
def conv01 (v : FVec F S1024x512 .f32) (w : Vec F S9x512 .f32) : FVec F S1024x512 .f32 :=
  k0_pay342 v maskL (k0_pay340 v (w0 w) (w3 w)) (k0_pay341 v (w6 w)) (w1 w) (w4 w) (w7 w)

/-- The activated convolution output, flat. -/
def xg (v : FVec F S1024x512 .f32) (w : Vec F S9x512 .f32) (b : Vec F S1x512 .f32) : FVec F S1024x512 .f32 :=
  k0_pay345 maskR (conv01 v w) (k0_pay343 v (w2 w) (w5 w)) (k0_pay344 v) (w8 w) b

/-- The activated convolution output, in chunks. -/
def xg3 (v : FVec F S1024x512 .f32) (w : Vec F S9x512 .f32) (b : Vec F S1x512 .f32) : FVec F S8x128x512 .f32 :=
  k0_pay346 maskR (conv01 v w) (k0_pay343 v (w2 w) (w5 w)) (k0_pay344 v) (w8 w) b

/-- The three projections side by side. -/
def prj (v : FVec F S1024x512 .f32) (w : Vec F S9x512 .f32) (b : Vec F S1x512 .f32) (wx : Vec F S512x144 .f32) : FVec F S1024x144 .f32 :=
  k0_pay347 maskR (conv01 v w) (k0_pay343 v (w2 w) (w5 w)) (k0_pay344 v) (w8 w) b wx

/-- The `B` projection in chunks. -/
def b3 (v : FVec F S1024x512 .f32) (w : Vec F S9x512 .f32) (b : Vec F S1x512 .f32) (wx : Vec F S512x144 .f32) : FVec F S8x128x64 .f32 :=
  k0_pay348 maskR (conv01 v w) (k0_pay343 v (w2 w) (w5 w)) (k0_pay344 v) (w8 w) b wx

/-- The `C` projection in chunks. -/
def c3 (v : FVec F S1024x512 .f32) (w : Vec F S9x512 .f32) (b : Vec F S1x512 .f32) (wx : Vec F S512x144 .f32) : FVec F S8x128x64 .f32 :=
  k0_pay349 maskR (conv01 v w) (k0_pay343 v (w2 w) (w5 w)) (k0_pay344 v) (w8 w) b wx

/-- Chunk `k` of an array of 512-wide rows. -/
def chunk (x : FVec F S8x128x512 .f32) (k : Fin k0_t1_loop.trips) : Vec F S1x128x512 .f32 :=
  View.ld (Val := Elt F) x (Rect.unit (s := S8x128x512) (k0_off1 k) S1x128x512.size (k0_off1_inb k))

/-- Chunk `k` of an array of 64-wide rows. -/
def chunkS (x : FVec F S8x128x64 .f32) (k : Fin k0_t1_loop.trips) : Vec F S1x128x64 .f32 :=
  View.ld (Val := Elt F) x (Rect.unit (s := S8x128x64) (k0_off2 k) S1x128x64.size (k0_off2_inb k))

/-- The outputs of the recurrence over given step sizes, inputs and projections. -/
def scan (dt dtx : FVec F S8x128x512 .f32) (b c : FVec F S8x128x64 .f32) (a : Vec F S64x512 .f32) : FVec F S8x128x512 .f32 :=
  ysAll (fun k => k0_pay2 (chunk dt k)) (fun k => k0_pay3 (chunk dtx k)) (fun k => k0_pay4 (chunkS b k)) (fun k => k0_pay5 (chunkS c k)) a k0_pay355

/-- The block the kernel writes, as a function of its sixteen input blocks. -/
def out (x0 : Vec F S1x1024x256 .f32) (x1 x2 : Vec F S1x256 .f32) (x3 : Vec F S256x512 .f32) (x4 : Vec F S1x512 .f32) (x5 : Vec F S9x512 .f32)
    (x6 : Vec F S1x512 .f32) (x7 : Vec F S512x144 .f32) (x8 : Vec F S16x512 .f32) (x9 : Vec F S1x512 .f32) (x10 : Vec F S64x512 .f32)
    (x11 x12 x13 : Vec F S1x512 .f32) (x14 : Vec F S512x256 .f32) (x15 : Vec F S1x256 .f32) : FVec F S1x1024x256 .f32 :=
  k0_pay1 (k0_pay361
      (scan (k0_pay351 (prj (k0_pay334 x0 x1 x2 x3 x4) x5 x6 x7) x8 x9)
        (k0_pay352 (xg (k0_pay334 x0 x1 x2 x3 x4) x5 x6) (prj (k0_pay334 x0 x1 x2 x3 x4) x5 x6 x7) x8 x9)
        (b3 (k0_pay334 x0 x1 x2 x3 x4) x5 x6 x7) (c3 (k0_pay334 x0 x1 x2 x3 x4) x5 x6 x7) (k0_pay354 (k0_pay353 x10)))
      (xg3 (k0_pay334 x0 x1 x2 x3 x4) x5 x6) x11 x12)
    (k0_pay362 x13) x0 x14 x15

end Cert.KernelIdeal.Block

end
-- ==== Proof.Body.lean ====
module

public import proofs.«01_k».proof.Proof.Block
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body's triple: from the sixteen input blocks, the output block at anything and the scratch at anything, the body ends
    with the inputs as they were, the output block at `Block.out` of the inputs, and the scratch at some contents. -/
theorem kernel_run (c : Dev nD) (i : grid0.Coords) (arg1 : Memref sig .tc .vmem S1x1024x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S9x512 .f32) (harg6 : arg6.IsWhole) (arg7 : Memref sig .tc .vmem S1x512 .f32) (harg7 : arg7.IsWhole) (arg8 : Memref sig .tc .vmem S512x144 .f32) (harg8 : arg8.IsWhole) (arg9 : Memref sig .tc .vmem S16x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S1x1024x256 .f32) (harg17 : arg17.IsWhole) (arg18 : Memref sig .tc .vmem S8x128x512 .f32) (harg18 : arg18.IsWhole) (arg19 : Memref sig .tc .vmem S8x128x512 .f32) (harg19 : arg19.IsWhole) (arg20 : Memref sig .tc .vmem S8x128x512 .f32) (harg20 : arg20.IsWhole) (arg21 : Memref sig .tc .vmem S8x128x64 .f32) (harg21 : arg21.IsWhole) (arg22 : Memref sig .tc .vmem S8x128x64 .f32) (harg22 : arg22.IsWhole) (arg23 : Memref sig .tc .vmem S8x128x512 .f32) (harg23 : arg23.IsWhole) (arg24 : Memref sig .tc .vmem S64x512 .f32) (harg24 : arg24.IsWhole)
    (x0 : Vec F S1x1024x256 .f32) (x1 : Vec F S1x256 .f32) (x2 : Vec F S1x256 .f32) (x3 : Vec F S256x512 .f32) (x4 : Vec F S1x512 .f32) (x5 : Vec F S9x512 .f32) (x6 : Vec F S1x512 .f32) (x7 : Vec F S512x144 .f32) (x8 : Vec F S16x512 .f32) (x9 : Vec F S1x512 .f32) (x10 : Vec F S64x512 .f32) (x11 : Vec F S1x512 .f32) (x12 : Vec F S1x512 .f32) (x13 : Vec F S1x512 .f32) (x14 : Vec F S512x256 .f32) (x15 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (Block.out x0 x1 x2 x3 x4 x5 x6 x7 x8 x9 x10 x11 x12 x13 x14 x15) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_vss_encoder_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_vss_encoder_layer_eq_skeleton]; unfold cc0_vss_encoder_layer_skel
    simp only [k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro
      refine (View.read_writes_full _ _ _ _ _).trans ?_
      have e0 : View.readAt (Elt F) arg1.view (Rect.unit (s := S1x1024x256) ![0, 0, 0] S1x1024x256.size inb_S1x1024x256_S1x1024x256_0_0_0).toLoadRect (harg1.unread x0) = x0 :=
        (View.readAt_full _ _ _).trans (harg1.read_unread x0)
      have e1 : View.readAt (Elt F) arg2.view (Rect.unit (s := S1x256) ![0, 0] S1x256.size inb_S1x256_S1x256_0_0).toLoadRect (harg2.unread x1) = x1 :=
        (View.readAt_full _ _ _).trans (harg2.read_unread x1)
      have e2 : View.readAt (Elt F) arg3.view (Rect.unit (s := S1x256) ![0, 0] S1x256.size inb_S1x256_S1x256_0_0).toLoadRect (harg3.unread x2) = x2 :=
        (View.readAt_full _ _ _).trans (harg3.read_unread x2)
      have e3 : View.readAt (Elt F) arg4.view (Rect.unit (s := S256x512) ![0, 0] S256x512.size inb_S256x512_S256x512_0_0).toLoadRect (harg4.unread x3) = x3 :=
        (View.readAt_full _ _ _).trans (harg4.read_unread x3)
      have e4 : View.readAt (Elt F) arg5.view (Rect.unit (s := S1x512) ![0, 0] S1x512.size inb_S1x512_S1x512_0_0).toLoadRect (harg5.unread x4) = x4 :=
        (View.readAt_full _ _ _).trans (harg5.read_unread x4)
      have e6 : View.readAt (Elt F) arg7.view (Rect.unit (s := S1x512) ![0, 0] S1x512.size inb_S1x512_S1x512_0_0).toLoadRect (harg7.unread x6) = x6 :=
        (View.readAt_full _ _ _).trans (harg7.read_unread x6)
      have e7 : View.readAt (Elt F) arg8.view (Rect.unit (s := S512x144) ![0, 0] S512x144.size inb_S512x144_S512x144_0_0).toLoadRect (harg8.unread x7) = x7 :=
        (View.readAt_full _ _ _).trans (harg8.read_unread x7)
      have e8 : View.readAt (Elt F) arg9.view (Rect.unit (s := S16x512) ![0, 0] S16x512.size inb_S16x512_S16x512_0_0).toLoadRect (harg9.unread x8) = x8 :=
        (View.readAt_full _ _ _).trans (harg9.read_unread x8)
      have e9 : View.readAt (Elt F) arg10.view (Rect.unit (s := S1x512) ![0, 0] S1x512.size inb_S1x512_S1x512_0_0).toLoadRect (harg10.unread x9) = x9 :=
        (View.readAt_full _ _ _).trans (harg10.read_unread x9)
      have e10 : View.readAt (Elt F) arg11.view (Rect.unit (s := S64x512) ![0, 0] S64x512.size inb_S64x512_S64x512_0_0).toLoadRect (harg11.unread x10) = x10 :=
        (View.readAt_full _ _ _).trans (harg11.read_unread x10)
      have e11 : View.readAt (Elt F) arg12.view (Rect.unit (s := S1x512) ![0, 0] S1x512.size inb_S1x512_S1x512_0_0).toLoadRect (harg12.unread x11) = x11 :=
        (View.readAt_full _ _ _).trans (harg12.read_unread x11)
      have e12 : View.readAt (Elt F) arg13.view (Rect.unit (s := S1x512) ![0, 0] S1x512.size inb_S1x512_S1x512_0_0).toLoadRect (harg13.unread x12) = x12 :=
        (View.readAt_full _ _ _).trans (harg13.read_unread x12)
      have e13 : View.readAt (Elt F) arg14.view (Rect.unit (s := S1x512) ![0, 0] S1x512.size inb_S1x512_S1x512_0_0).toLoadRect (harg14.unread x13) = x13 :=
        (View.readAt_full _ _ _).trans (harg14.read_unread x13)
      have e14 : View.readAt (Elt F) arg15.view (Rect.unit (s := S512x256) ![0, 0] S512x256.size inb_S512x256_S512x256_0_0).toLoadRect (harg15.unread x14) = x14 :=
        (View.readAt_full _ _ _).trans (harg15.read_unread x14)
      have e15 : View.readAt (Elt F) arg16.view (Rect.unit (s := S1x256) ![0, 0] S1x256.size inb_S1x256_S1x256_0_0).toLoadRect (harg16.unread x15) = x15 :=
        (View.readAt_full _ _ _).trans (harg16.read_unread x15)
      have r0 : View.readAt (Elt F) arg6.view (Rect.unit (s := S9x512) ![0, 0] S1x512.size inb_S9x512_S1x512_0_0).toLoadRect (harg6.unread x5) = Block.w0 x5 :=
        congrArg (fun z => View.ld (Val := Elt F) z (Rect.unit (s := S9x512) ![0, 0] S1x512.size inb_S9x512_S1x512_0_0)) (harg6.read_unread x5)
      have r1 : View.readAt (Elt F) arg6.view (Rect.unit (s := S9x512) ![1, 0] S1x512.size inb_S9x512_S1x512_1_0).toLoadRect (harg6.unread x5) = Block.w1 x5 :=
        congrArg (fun z => View.ld (Val := Elt F) z (Rect.unit (s := S9x512) ![1, 0] S1x512.size inb_S9x512_S1x512_1_0)) (harg6.read_unread x5)
      have r2 : View.readAt (Elt F) arg6.view (Rect.unit (s := S9x512) ![2, 0] S1x512.size inb_S9x512_S1x512_2_0).toLoadRect (harg6.unread x5) = Block.w2 x5 :=
        congrArg (fun z => View.ld (Val := Elt F) z (Rect.unit (s := S9x512) ![2, 0] S1x512.size inb_S9x512_S1x512_2_0)) (harg6.read_unread x5)
      have r3 : View.readAt (Elt F) arg6.view (Rect.unit (s := S9x512) ![3, 0] S1x512.size inb_S9x512_S1x512_3_0).toLoadRect (harg6.unread x5) = Block.w3 x5 :=
        congrArg (fun z => View.ld (Val := Elt F) z (Rect.unit (s := S9x512) ![3, 0] S1x512.size inb_S9x512_S1x512_3_0)) (harg6.read_unread x5)
      have r4 : View.readAt (Elt F) arg6.view (Rect.unit (s := S9x512) ![4, 0] S1x512.size inb_S9x512_S1x512_4_0).toLoadRect (harg6.unread x5) = Block.w4 x5 :=
        congrArg (fun z => View.ld (Val := Elt F) z (Rect.unit (s := S9x512) ![4, 0] S1x512.size inb_S9x512_S1x512_4_0)) (harg6.read_unread x5)
      have r5 : View.readAt (Elt F) arg6.view (Rect.unit (s := S9x512) ![5, 0] S1x512.size inb_S9x512_S1x512_5_0).toLoadRect (harg6.unread x5) = Block.w5 x5 :=
        congrArg (fun z => View.ld (Val := Elt F) z (Rect.unit (s := S9x512) ![5, 0] S1x512.size inb_S9x512_S1x512_5_0)) (harg6.read_unread x5)
      have r6 : View.readAt (Elt F) arg6.view (Rect.unit (s := S9x512) ![6, 0] S1x512.size inb_S9x512_S1x512_6_0).toLoadRect (harg6.unread x5) = Block.w6 x5 :=
        congrArg (fun z => View.ld (Val := Elt F) z (Rect.unit (s := S9x512) ![6, 0] S1x512.size inb_S9x512_S1x512_6_0)) (harg6.read_unread x5)
      have r7 : View.readAt (Elt F) arg6.view (Rect.unit (s := S9x512) ![7, 0] S1x512.size inb_S9x512_S1x512_7_0).toLoadRect (harg6.unread x5) = Block.w7 x5 :=
        congrArg (fun z => View.ld (Val := Elt F) z (Rect.unit (s := S9x512) ![7, 0] S1x512.size inb_S9x512_S1x512_7_0)) (harg6.read_unread x5)
      have r8 : View.readAt (Elt F) arg6.view (Rect.unit (s := S9x512) ![8, 0] S1x512.size inb_S9x512_S1x512_8_0).toLoadRect (harg6.unread x5) = Block.w8 x5 :=
        congrArg (fun z => View.ld (Val := Elt F) z (Rect.unit (s := S9x512) ![8, 0] S1x512.size inb_S9x512_S1x512_8_0)) (harg6.read_unread x5)
      dsimp only [kernel_run.sl.r, kernel_run.sl.r_1, kernel_run.sl.r_2, kernel_run.sl.r_3, kernel_run.sl.r_4, kernel_run.sl.r_5, kernel_run.sl.r_6, kernel_run.sl.r_7, kernel_run.sl.r_8, kernel_run.sl.r_9, kernel_run.sl.r_10, kernel_run.sl.r_11, kernel_run.sl.r_12, kernel_run.sl.r_13, kernel_run.sl.r_14, kernel_run.sl.r_15, kernel_run.sl.v207, kernel_run.sl.v209, kernel_run.sl.HS0_1, kernel_run.sl.HS1_1, kernel_run.sl.HS2_1, kernel_run.sl.HS3_1, kernel_run.sl.HS4_1, kernel_run.sl.HS6_1]
      simp only [e0, e1, e2, e3, e4, e6, e7, e8, e9, e10, e11, e12, e13, e14, e15, r0, r1, r2, r3, r4, r5, r6, r7, r8]
      refine congrArg₂ (fun y z => k0_pay1 (k0_pay361 y z x11 x12) (k0_pay362 x13) x0 x14 x15) ?_ (View.readCov_full _ _ _ _ _)
      refine ((View.readAt_full _ _ _).trans (Trip.loop_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ _ _ _ _ _ _ arg23.view fs5)).trans ?_
      have g19 : ∀ (w : FVec F S8x128x512 .f32) (k : Fin k0_t1_loop.trips),
          View.readAt (Elt F) arg19.view (Rect.unit (s := S8x128x512) (k0_off1 k) S1x128x512.size (k0_off1_inb k)).toLoadRect
            (arg19.view.writes (Elt F) arg19.view.junk [⟨Rect.unit (s := S8x128x512) ![0, 0, 0] S8x128x512.size inb_S8x128x512_S8x128x512_0_0_0, w⟩]) = Block.chunk w k :=
        fun w k => congrArg (fun z => View.ld (Val := Elt F) z (Rect.unit (s := S8x128x512) (k0_off1 k) S1x128x512.size (k0_off1_inb k))) (View.read_writes_full _ _ _ _ _)
      have g20 : ∀ (w : FVec F S8x128x512 .f32) (k : Fin k0_t1_loop.trips),
          View.readAt (Elt F) arg20.view (Rect.unit (s := S8x128x512) (k0_off1 k) S1x128x512.size (k0_off1_inb k)).toLoadRect
            (arg20.view.writes (Elt F) arg20.view.junk [⟨Rect.unit (s := S8x128x512) ![0, 0, 0] S8x128x512.size inb_S8x128x512_S8x128x512_0_0_0, w⟩]) = Block.chunk w k :=
        fun w k => congrArg (fun z => View.ld (Val := Elt F) z (Rect.unit (s := S8x128x512) (k0_off1 k) S1x128x512.size (k0_off1_inb k))) (View.read_writes_full _ _ _ _ _)
      have g21 : ∀ (w : FVec F S8x128x64 .f32) (k : Fin k0_t1_loop.trips),
          View.readAt (Elt F) arg21.view (Rect.unit (s := S8x128x64) (k0_off2 k) S1x128x64.size (k0_off2_inb k)).toLoadRect
            (arg21.view.writes (Elt F) arg21.view.junk [⟨Rect.unit (s := S8x128x64) ![0, 0, 0] S8x128x64.size inb_S8x128x64_S8x128x64_0_0_0, w⟩]) = Block.chunkS w k :=
        fun w k => congrArg (fun z => View.ld (Val := Elt F) z (Rect.unit (s := S8x128x64) (k0_off2 k) S1x128x64.size (k0_off2_inb k))) (View.read_writes_full _ _ _ _ _)
      have g22 : ∀ (w : FVec F S8x128x64 .f32) (k : Fin k0_t1_loop.trips),
          View.readAt (Elt F) arg22.view (Rect.unit (s := S8x128x64) (k0_off2 k) S1x128x64.size (k0_off2_inb k)).toLoadRect
            (arg22.view.writes (Elt F) arg22.view.junk [⟨Rect.unit (s := S8x128x64) ![0, 0, 0] S8x128x64.size inb_S8x128x64_S8x128x64_0_0_0, w⟩]) = Block.chunkS w k :=
        fun w k => congrArg (fun z => View.ld (Val := Elt F) z (Rect.unit (s := S8x128x64) (k0_off2 k) S1x128x64.size (k0_off2_inb k))) (View.read_writes_full _ _ _ _ _)
      simp only [g19, g20, g21, g22]
      exact congrArg (Trip.ysAll _ _ _ _ · k0_pay355) (View.readAt_writes_full _ _ _ _ _ _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Hand

end
-- ==== Proof.Launch.lean ====
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging memref of window `w` at point `t`, and that it is a whole buffer. -/
abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1024x256 .f32 := win0_16.stage (cfg0.slots t 16)
abbrev hs0_16 (t : Fin cfg0.N) : (ms0_16 t).IsWhole := hstage0_16 ((cfg0.slots t 16).cast nbuf0_16)

abbrev scM0_0 : Memref sig .tc .vmem S8x128x512 .f32 := Memref.whole cc0_scratch0
abbrev scM0_1 : Memref sig .tc .vmem S8x128x512 .f32 := Memref.whole cc0_scratch1
abbrev scM0_2 : Memref sig .tc .vmem S8x128x512 .f32 := Memref.whole cc0_scratch2
abbrev scM0_3 : Memref sig .tc .vmem S8x128x64 .f32 := Memref.whole cc0_scratch3
abbrev scM0_4 : Memref sig .tc .vmem S8x128x64 .f32 := Memref.whole cc0_scratch4
abbrev scM0_5 : Memref sig .tc .vmem S8x128x512 .f32 := Memref.whole cc0_scratch5
abbrev scM0_6 : Memref sig .tc .vmem S64x512 .f32 := Memref.whole cc0_scratch6

/-- The scoped buffers and the generator register at anything, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The pipeline's proof data: each input window keeps its block, and the output window holds `Block.out` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => Block.out (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

theorem after0_16 (c : Dev nD) (t : Fin cfg0.N) : (dats m 0 c).after 16 t =
    Block.out (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body obligation hands the body at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What it takes back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 2400000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernel_run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, H16, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends as the body leaves it block by block, every other buffer as the host lines leave
    it, and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Every argument ends as it began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run m ρ)) ((θ_run defs _ _).mono (fun _ h => h.2) (run_quiescent m ρ))

end Cert.KernelIdeal.Hand

end
-- ==== Proof.RefRun.lean ====
/- The run of the reference over its loop state. A valuation HOLDS a state when the carried buffers are the state's fields and the
   trip counter is the trip's number. One trip takes a holding valuation to one holding `step` of the state, one lemma per value of
   the trip; what stands before the loop holds the initial state; so the result is read off any sequence of states that starts at the
   initial one and goes by `step`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v127_7) = s.main_v127_7
  f_8 : V0 (Proc.devRef .tc main_v127_8) = s.main_v127_8
  f_0 : V0 (Proc.devRef .tc main_v127_0) = s.main_v127_0
  f_1 : V0 (Proc.devRef .tc main_v127_1) = s.main_v127_1
  f_2 : V0 (Proc.devRef .tc main_v127_2) = s.main_v127_2
  f_3 : V0 (Proc.devRef .tc main_v127_3) = s.main_v127_3
  f_4 : V0 (Proc.devRef .tc main_v127_4) = s.main_v127_4
  f_5 : V0 (Proc.devRef .tc main_v127_5) = s.main_v127_5
  n_6 : V0 (Proc.devRef .tc main_v127_6) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x4x512 (V0 (Proc.devRef .tc main_v127_0)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x512_S1x4x512 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_6]
  try rfl
set_option maxRecDepth 8192 in
theorem al_3 (h : Holds V0 s j) : (res_main_while0b_v159 V0 : (Proc.devRef .tc main_while0b_v159 : DevRef τ sig).ty.Contents (Elt F)) = Cert.ReferenceIdeal.Step.b3 j s := by
  unfold res_main_while0b_v159 Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x4x512 (V0 (Proc.devRef .tc main_v127_1)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x512_S1x4x512 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_6]
  try rfl
set_option maxRecDepth 8192 in
theorem al_7 (h : Holds V0 s j) : (res_main_while0b_v160 V0 : (Proc.devRef .tc main_while0b_v160 : DevRef τ sig).ty.Contents (Elt F)) = Cert.ReferenceIdeal.Step.b7 j s := by
  unfold res_main_while0b_v160 Cert.ReferenceIdeal.Step.b7
  rw [← al_6 h]
  try rfl
set_option maxRecDepth 8192 in
theorem al_8 (h : Holds V0 s j) : (constantI S_ 32 0#32 : (Proc.devRef .tc main_while0b_call4_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_0 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x64 (V0 (Proc.devRef .tc main_v127_2)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64 : (Proc.devRef .tc main_while0b_call4_v0 : DevRef τ sig).ty.Contents (Elt F)) = Cert.ReferenceIdeal.Step.b10 j s := by
  unfold Cert.ReferenceIdeal.Step.b10
  rw [← al_8 h, ← al_9 h, h.f_2, h.n_6]
  try rfl
set_option maxRecDepth 8192 in
theorem al_11 (h : Holds V0 s j) : (shapeCast S4x64 (Host.dynamicSlice S1x4x64 (V0 (Proc.devRef .tc main_v127_2)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64 : (Proc.devRef .tc main_while0b_v161 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_0 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x4x64 (V0 (Proc.devRef .tc main_v127_3)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64 : (Proc.devRef .tc main_while0b_call5_v0 : DevRef τ sig).ty.Contents (Elt F)) = Cert.ReferenceIdeal.Step.b14 j s := by
  unfold Cert.ReferenceIdeal.Step.b14
  rw [← al_12 h, ← al_13 h, h.f_3, h.n_6]
  try rfl
set_option maxRecDepth 8192 in
theorem al_15 (h : Holds V0 s j) : (shapeCast S4x64 (Host.dynamicSlice S1x4x64 (V0 (Proc.devRef .tc main_v127_3)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64 : (Proc.devRef .tc main_while0b_v162 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (broadcastInDim S4x512x1 ![0, 1] bcast_S4x512_S4x512x1_0_1 (res_main_while0b_v160 V0) : (Proc.devRef .tc main_while0b_v163 : DevRef τ sig).ty.Contents (Elt F)) = Cert.ReferenceIdeal.Step.b16 j s := by
  unfold Cert.ReferenceIdeal.Step.b16
  rw [← al_7 h]
  try rfl
set_option maxRecDepth 8192 in
theorem al_17 (h : Holds V0 s j) : (broadcastInDim S1x512x64 ![1, 2] bcast_S512x64_S1x512x64_1_2 (V0 (Proc.devRef .tc main_v127_4)) : (Proc.devRef .tc main_while0b_v164 : DevRef τ sig).ty.Contents (Elt F)) = Cert.ReferenceIdeal.Step.b17 j s := by
  unfold Cert.ReferenceIdeal.Step.b17
  rw [h.f_4]
  try rfl
set_option maxRecDepth 8192 in
theorem al_18 (h : Holds V0 s j) : (broadcastInDim S4x512x64 ![0, 1, 2] bcast_S4x512x1_S4x512x64_0_1_2 (broadcastInDim S4x512x1 ![0, 1] bcast_S4x512_S4x512x1_0_1 (res_main_while0b_v160 V0)) : (Proc.devRef .tc main_while0b_v165 : DevRef τ sig).ty.Contents (Elt F)) = Cert.ReferenceIdeal.Step.b18 j s := by
  unfold Cert.ReferenceIdeal.Step.b18
  rw [← al_16 h]
  try rfl
set_option maxRecDepth 8192 in
theorem al_19 (h : Holds V0 s j) : (broadcastInDim S4x512x64 ![0, 1, 2] bcast_S1x512x64_S4x512x64_0_1_2 (broadcastInDim S1x512x64 ![1, 2] bcast_S512x64_S1x512x64_1_2 (V0 (Proc.devRef .tc main_v127_4))) : (Proc.devRef .tc main_while0b_v166 : DevRef τ sig).ty.Contents (Elt F)) = Cert.ReferenceIdeal.Step.b19 j s := by
  unfold Cert.ReferenceIdeal.Step.b19
  rw [← al_17 h]
  try rfl
set_option maxRecDepth 8192 in
theorem al_20 (h : Holds V0 s j) : (mulf (broadcastInDim S4x512x64 ![0, 1, 2] bcast_S4x512x1_S4x512x64_0_1_2 (broadcastInDim S4x512x1 ![0, 1] bcast_S4x512_S4x512x1_0_1 (res_main_while0b_v160 V0))) (broadcastInDim S4x512x64 ![0, 1, 2] bcast_S1x512x64_S4x512x64_0_1_2 (broadcastInDim S1x512x64 ![1, 2] bcast_S512x64_S1x512x64_1_2 (V0 (Proc.devRef .tc main_v127_4)))) : (Proc.devRef .tc main_while0b_v167 : DevRef τ sig).ty.Contents (Elt F)) = Cert.ReferenceIdeal.Step.b20 j s := by
  unfold Cert.ReferenceIdeal.Step.b20
  rw [← al_18 h, ← al_19 h]
  try rfl
set_option maxRecDepth 8192 in
theorem al_21 (h : Holds V0 s j) : (Host.exp (mulf (broadcastInDim S4x512x64 ![0, 1, 2] bcast_S4x512x1_S4x512x64_0_1_2 (broadcastInDim S4x512x1 ![0, 1] bcast_S4x512_S4x512x1_0_1 (res_main_while0b_v160 V0))) (broadcastInDim S4x512x64 ![0, 1, 2] bcast_S1x512x64_S4x512x64_0_1_2 (broadcastInDim S1x512x64 ![1, 2] bcast_S512x64_S1x512x64_1_2 (V0 (Proc.devRef .tc main_v127_4))))) : (Proc.devRef .tc main_while0b_v168 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (mulf (Host.exp (mulf (broadcastInDim S4x512x64 ![0, 1, 2] bcast_S4x512x1_S4x512x64_0_1_2 (broadcastInDim S4x512x1 ![0, 1] bcast_S4x512_S4x512x1_0_1 (res_main_while0b_v160 V0))) (broadcastInDim S4x512x64 ![0, 1, 2] bcast_S1x512x64_S4x512x64_0_1_2 (broadcastInDim S1x512x64 ![1, 2] bcast_S512x64_S1x512x64_1_2 (V0 (Proc.devRef .tc main_v127_4)))))) (V0 (Proc.devRef .tc main_v127_7)) : (Proc.devRef .tc main_while0b_v169 : DevRef τ sig).ty.Contents (Elt F)) = Cert.ReferenceIdeal.Step.b22 j s := by
  unfold Cert.ReferenceIdeal.Step.b22
  rw [← al_21 h, h.f_7]
  try rfl
set_option maxRecDepth 8192 in
theorem al_23 (h : Holds V0 s j) : (mulf (res_main_while0b_v160 V0) (res_main_while0b_v159 V0) : (Proc.devRef .tc main_while0b_v170 : DevRef τ sig).ty.Contents (Elt F)) = Cert.ReferenceIdeal.Step.b23 j s := by
  unfold Cert.ReferenceIdeal.Step.b23
  rw [← al_7 h, ← al_3 h]
  try rfl
set_option maxRecDepth 8192 in
theorem al_24 (h : Holds V0 s j) : (broadcastInDim S4x512x1 ![0, 1] bcast_S4x512_S4x512x1_0_1 (mulf (res_main_while0b_v160 V0) (res_main_while0b_v159 V0)) : (Proc.devRef .tc main_while0b_v171 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S4x1x64 ![0, 2] bcast_S4x64_S4x1x64_0_2 (shapeCast S4x64 (Host.dynamicSlice S1x4x64 (V0 (Proc.devRef .tc main_v127_2)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64) : (Proc.devRef .tc main_while0b_v172 : DevRef τ sig).ty.Contents (Elt F)) = Cert.ReferenceIdeal.Step.b25 j s := by
  unfold Cert.ReferenceIdeal.Step.b25
  rw [← al_11 h]
  try rfl
set_option maxRecDepth 8192 in
theorem al_26 (h : Holds V0 s j) : (broadcastInDim S4x512x64 ![0, 1, 2] bcast_S4x512x1_S4x512x64_0_1_2 (broadcastInDim S4x512x1 ![0, 1] bcast_S4x512_S4x512x1_0_1 (mulf (res_main_while0b_v160 V0) (res_main_while0b_v159 V0))) : (Proc.devRef .tc main_while0b_v173 : DevRef τ sig).ty.Contents (Elt F)) = Cert.ReferenceIdeal.Step.b26 j s := by
  unfold Cert.ReferenceIdeal.Step.b26
  rw [← al_24 h]
  try rfl
set_option maxRecDepth 8192 in
theorem al_27 (h : Holds V0 s j) : (broadcastInDim S4x512x64 ![0, 1, 2] bcast_S4x1x64_S4x512x64_0_1_2 (broadcastInDim S4x1x64 ![0, 2] bcast_S4x64_S4x1x64_0_2 (shapeCast S4x64 (Host.dynamicSlice S1x4x64 (V0 (Proc.devRef .tc main_v127_2)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64)) : (Proc.devRef .tc main_while0b_v174 : DevRef τ sig).ty.Contents (Elt F)) = Cert.ReferenceIdeal.Step.b27 j s := by
  unfold Cert.ReferenceIdeal.Step.b27
  rw [← al_25 h]
  try rfl
set_option maxRecDepth 8192 in
theorem al_28 (h : Holds V0 s j) : (mulf (broadcastInDim S4x512x64 ![0, 1, 2] bcast_S4x512x1_S4x512x64_0_1_2 (broadcastInDim S4x512x1 ![0, 1] bcast_S4x512_S4x512x1_0_1 (mulf (res_main_while0b_v160 V0) (res_main_while0b_v159 V0)))) (broadcastInDim S4x512x64 ![0, 1, 2] bcast_S4x1x64_S4x512x64_0_1_2 (broadcastInDim S4x1x64 ![0, 2] bcast_S4x64_S4x1x64_0_2 (shapeCast S4x64 (Host.dynamicSlice S1x4x64 (V0 (Proc.devRef .tc main_v127_2)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64))) : (Proc.devRef .tc main_while0b_v175 : DevRef τ sig).ty.Contents (Elt F)) = Cert.ReferenceIdeal.Step.b28 j s := by
  unfold Cert.ReferenceIdeal.Step.b28
  rw [← al_26 h, ← al_27 h]
  try rfl
set_option maxRecDepth 8192 in
theorem al_29 (h : Holds V0 s j) : (res_main_while0b_v176 V0 : (Proc.devRef .tc main_while0b_v176 : DevRef τ sig).ty.Contents (Elt F)) = Cert.ReferenceIdeal.Step.b29 j s := by
  unfold res_main_while0b_v176 Cert.ReferenceIdeal.Step.b29
  rw [← al_22 h, ← al_28 h]
  try rfl
set_option maxRecDepth 8192 in
theorem al_30 (h : Holds V0 s j) : (Host.dotGeneral dot_S4x512x64_S4x64_S4x512_2_1_1_n_0_0 none (res_main_while0b_v176 V0) (shapeCast S4x64 (Host.dynamicSlice S1x4x64 (V0 (Proc.devRef .tc main_v127_3)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64) : (Proc.devRef .tc main_while0b_v177 : DevRef τ sig).ty.Contents (Elt F)) = Cert.ReferenceIdeal.Step.b30 j s := by
  unfold Cert.ReferenceIdeal.Step.b30
  rw [← al_29 h, ← al_15 h]
  try rfl
set_option maxRecDepth 8192 in
theorem al_31 (h : Holds V0 s j) : (broadcastInDim S1x512 ![1] bcast_S512_S1x512_1 (V0 (Proc.devRef .tc main_v127_5)) : (Proc.devRef .tc main_while0b_v178 : DevRef τ sig).ty.Contents (Elt F)) = Cert.ReferenceIdeal.Step.b31 j s := by
  unfold Cert.ReferenceIdeal.Step.b31
  rw [h.f_5]
  try rfl
set_option maxRecDepth 8192 in
theorem al_32 (h : Holds V0 s j) : (broadcastInDim S4x512 ![0, 1] bcast_S1x512_S4x512_0_1 (broadcastInDim S1x512 ![1] bcast_S512_S1x512_1 (V0 (Proc.devRef .tc main_v127_5))) : (Proc.devRef .tc main_while0b_v179 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (res_main_while0b_v159 V0) (broadcastInDim S4x512 ![0, 1] bcast_S1x512_S4x512_0_1 (broadcastInDim S1x512 ![1] bcast_S512_S1x512_1 (V0 (Proc.devRef .tc main_v127_5)))) : (Proc.devRef .tc main_while0b_v180 : DevRef τ sig).ty.Contents (Elt F)) = Cert.ReferenceIdeal.Step.b33 j s := by
  unfold Cert.ReferenceIdeal.Step.b33
  rw [← al_3 h, ← al_32 h]
  try rfl
set_option maxRecDepth 8192 in
theorem al_34 (h : Holds V0 s j) : (addf (Host.dotGeneral dot_S4x512x64_S4x64_S4x512_2_1_1_n_0_0 none (res_main_while0b_v176 V0) (shapeCast S4x64 (Host.dynamicSlice S1x4x64 (V0 (Proc.devRef .tc main_v127_3)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64)) (mulf (res_main_while0b_v159 V0) (broadcastInDim S4x512 ![0, 1] bcast_S1x512_S4x512_0_1 (broadcastInDim S1x512 ![1] bcast_S512_S1x512_1 (V0 (Proc.devRef .tc main_v127_5))))) : (Proc.devRef .tc main_while0b_v181 : DevRef τ sig).ty.Contents (Elt F)) = Cert.ReferenceIdeal.Step.b34 j s := by
  unfold Cert.ReferenceIdeal.Step.b34
  rw [← al_30 h, ← al_33 h]
  try rfl
set_option maxRecDepth 8192 in
theorem al_35 (h : Holds V0 s j) : (broadcastInDim S1x4x512 ![1, 2] bcast_S4x512_S1x4x512_1_2 (addf (Host.dotGeneral dot_S4x512x64_S4x64_S4x512_2_1_1_n_0_0 none (res_main_while0b_v176 V0) (shapeCast S4x64 (Host.dynamicSlice S1x4x64 (V0 (Proc.devRef .tc main_v127_3)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64)) (mulf (res_main_while0b_v159 V0) (broadcastInDim S4x512 ![0, 1] bcast_S1x512_S4x512_0_1 (broadcastInDim S1x512 ![1] bcast_S512_S1x512_1 (V0 (Proc.devRef .tc main_v127_5)))))) : (Proc.devRef .tc main_while0b_call6_v0 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (constantI S_ 32 0#32 : (Proc.devRef .tc main_while0b_call6_c : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call6_c_0 : DevRef τ sig).ty.Contents (Elt F)) = Cert.ReferenceIdeal.Step.b37 j s := by
  unfold Cert.ReferenceIdeal.Step.b37
  rfl
set_option maxRecDepth 8192 in
theorem al_38 (h : Holds V0 s j) : (Host.dynamicUpdateSlice (V0 (Proc.devRef .tc main_v127_8)) (broadcastInDim S1x4x512 ![1, 2] bcast_S4x512_S1x4x512_1_2 (addf (Host.dotGeneral dot_S4x512x64_S4x64_S4x512_2_1_1_n_0_0 none (res_main_while0b_v176 V0) (shapeCast S4x64 (Host.dynamicSlice S1x4x64 (V0 (Proc.devRef .tc main_v127_3)) (fun k => (((![V0 (Proc.devRef .tc main_v127_6), constantI S_ 32 0#32, constantI S_ 32 0#32] : Fin 3 → (⟨S_, .i32⟩ : BufTy).Contents (Elt F))) k (Shape.Idx.first h_S_)).toInt) sliceFits_S1024x4x64_S1x4x64) shapeCasts_S1x4x64_S4x64)) (mulf (res_main_while0b_v159 V0) (broadcastInDim S4x512 ![0, 1] bcast_S1x512_S4x512_0_1 (broadcastInDim S1x512 ![1] bcast_S512_S1x512_1 (V0 (Proc.devRef .tc main_v127_5))))))) (fun k => (((![V0 (Proc.devRef .tc main_v127_6), constantI S_ 32 0#32, constantI S_ 32 0#32] : Fin 3 → (⟨S_, .i32⟩ : BufTy).Contents (Elt F))) k (Shape.Idx.first h_S_)).toInt) updateFits_S1024x4x512_S1x4x512 : (Proc.devRef .tc main_while0b_v182 : DevRef τ sig).ty.Contents (Elt F)) = Cert.ReferenceIdeal.Step.b38 j s := by
  unfold Cert.ReferenceIdeal.Step.b38
  rw [← al_35 h, ← al_36 h, ← al_37 h, h.f_8, h.n_6]
  try rfl

/-! One trip's step of the carried values is `step`, field by field; a counter steps to the next number. -/

theorem step_7 (h : Holds V0 s j) : step_main_v127_7 V0 = (step j s).main_v127_7 := by
  unfold step_main_v127_7 Cert.ReferenceIdeal.Step.step
  show id (res_main_while0b_v176 V0) = _
  rw [al_29 h]
  try rfl
theorem step_8 (h : Holds V0 s j) : step_main_v127_8 V0 = (step j s).main_v127_8 := by
  unfold step_main_v127_8 Cert.ReferenceIdeal.Step.step
  exact al_38 h
theorem step_6 (h : Holds V0 s j) : step_main_v127_6 V0 = constantI S_ 32 (BitVec.ofNat 32 (j + 1)) := by
  unfold step_main_v127_6
  rw [h.n_6]
  funext i
  show BitVec.ofNat 32 j + 1#32 = BitVec.ofNat 32 (j + 1)
  simp only [BitVec.ofNat_add]

set_option maxRecDepth 8192 in
theorem out_main_v158_holds (h : Holds V0 s j) {x_main_arg0 : (⟨S4x32x32x256, .f32⟩ : BufTy).Contents (Elt F)} (h_main_arg0 : V0 (Proc.devRef .tc main_arg0) = x_main_arg0) {x_main_arg12 : (⟨S512, .f32⟩ : BufTy).Contents (Elt F)} (h_main_arg12 : V0 (Proc.devRef .tc main_arg12) = x_main_arg12) {x_main_arg13 : (⟨S512, .f32⟩ : BufTy).Contents (Elt F)} (h_main_arg13 : V0 (Proc.devRef .tc main_arg13) = x_main_arg13) {x_main_arg14 : (⟨S512x256, .f32⟩ : BufTy).Contents (Elt F)} (h_main_arg14 : V0 (Proc.devRef .tc main_arg14) = x_main_arg14) {x_main_arg15 : (⟨S256, .f32⟩ : BufTy).Contents (Elt F)} (h_main_arg15 : V0 (Proc.devRef .tc main_arg15) = x_main_arg15) : out_main_v158 V0 = Cert.ReferenceIdeal.Step.R_main_v158 s x_main_arg0 x_main_arg12 x_main_arg13 x_main_arg14 x_main_arg15 := by
  unfold out_main_v158 Cert.ReferenceIdeal.Step.R_main_v158
  rw [h.f_8, h_main_arg0, h_main_arg12, h_main_arg13, h_main_arg14, h_main_arg15]
  try rfl

/-- One trip keeps the valuation holding: `step` of the state, the same set-up values, the next number. -/
theorem holds_step (h : Holds V0 s j) : Holds (STEP V0) (step j s) (j + 1) where
  f_7 := (STEP_main_v127_7 V0).trans (step_7 h)
  f_8 := (STEP_main_v127_8 V0).trans (step_8 h)
  n_6 := (STEP_main_v127_6 V0).trans (step_6 h)
  f_0 := (STEP_main_v127_0 V0).trans h.f_0
  f_1 := (STEP_main_v127_1 V0).trans h.f_1
  f_2 := (STEP_main_v127_2 V0).trans h.f_2
  f_3 := (STEP_main_v127_3 V0).trans h.f_3
  f_4 := (STEP_main_v127_4 V0).trans h.f_4
  f_5 := (STEP_main_v127_5 V0).trans h.f_5

/-- The state the first trip starts from, of the memory the run starts from. -/
abbrev initState (m : (ℓ : Loc nD τ sig) → Buf (Elt F) ℓ) (c : Dev nD) : State F :=
  init (m ((c.tc : Thread nD τ).loc main_arg11)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 1400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v158) = Cert.ReferenceIdeal.Step.R_main_v158 (it c 1024) (m ((c.tc : Thread nD τ).loc main_arg0)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 1024
    ⟨(h c).1.trans (out_main_v158_holds hk (iter_main_arg0 m c 1024) (iter_main_arg12 m c 1024) (iter_main_arg13 m c 1024) (iter_main_arg14 m c 1024) (iter_main_arg15 m c 1024)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩) (Value.run m ρ)

end Cert.ReferenceIdeal.RefRun

end
-- ==== Proof.Spec.lean ====
/- What the layer computes, one image at a time, over the extended reals: a layer norm and a product, a depthwise 3 × 3 convolution
   over the 32 × 32 image whose rows are flat, an activation, the projections, the step sizes, the recurrence along the flat rows, the
   second layer norm and product, and the residual. -/
module

public import Idealize.ShloMosaic.PureOps.Ideal

@[expose] public section

noncomputable section

open Idealize.ShloMosaic

namespace Cert.Spec

/-- The mean of `n` numbers, `c` being `n` as a float constant. -/
def mean {n : ℕ} (c : EReal) (f : Fin n → EReal) : EReal := Ideal.div (∑ i, f i) c

/-- The layer norm of `f` with scale `g` and shift `b`. -/
def norm {n : ℕ} (c : EReal) (f g b : Fin n → EReal) (i : Fin n) : EReal :=
  (f i - mean c f) * Ideal.rsqrt (mean c (fun k => (f k - mean c f) * (f k - mean c f)) + Ideal.ofBits FTy.f32 925353388#32) * g i + b i

/-- The affine image of the normed input row. -/
def x2 (src : Fin 1024 → Fin 256 → EReal) (g b : Fin 256 → EReal) (w : Fin 256 → Fin 512 → EReal) (bi : Fin 512 → EReal)
    (l : Fin 1024) (d : Fin 512) : EReal :=
  ∑ x, norm (Ideal.ofBits FTy.f32 1132462080#32) (src l) g b x * w x d + bi d

/-- Row `l + k - 33` of the flat image, zero off it. -/
def shift (x : Fin 1024 → Fin 512 → EReal) (k : ℕ) (l : Fin 1024) (d : Fin 512) : EReal :=
  if h : 33 ≤ l.val + k ∧ l.val + k < 1057 then x ⟨l.val + k - 33, by omega⟩ d else 0

/-- Tap `(i, j)` of the convolution at row `l`: the neighbour `i - 1` lines down and `j - 1` columns right, zero outside the image. -/
def tap (x : Fin 1024 → Fin 512 → EReal) (i j : ℕ) (l : Fin 1024) (d : Fin 512) : EReal :=
  if 1 ≤ l.val % 32 + j ∧ l.val % 32 + j < 33 then shift x (32 * i + j) l d else 0

/-- The depthwise convolution. -/
def conv (x : Fin 1024 → Fin 512 → EReal) (w : Fin 3 → Fin 3 → Fin 512 → EReal) (b : Fin 512 → EReal) (l : Fin 1024) (d : Fin 512) : EReal :=
  ∑ i : Fin 3, ∑ j : Fin 3, tap x i.val j.val l d * w i j d + b d

/-- The activation, in its hyperbolic tangent form. -/
def gelu (z : EReal) : EReal :=
  z * (Ideal.ofBits FTy.f32 1056964608#32 * (1 + Ideal.tanh (Ideal.ofBits FTy.f32 1061962282#32 *
    (z + Ideal.ofBits FTy.f32 1027024659#32 * (z * (z * z))))))

/-- The three projections of row `l`, side by side. -/
def proj (x : Fin 1024 → Fin 512 → EReal) (wx : Fin 512 → Fin 144 → EReal) (l : Fin 1024) (j : Fin 144) : EReal :=
  ∑ d, x l d * wx d j

/-- `log (1 + exp z)`, in its stable form. -/
def softplus (z : EReal) : EReal := max z 0 + Ideal.log1p (Ideal.exp (-(max z (-z))))

/-- The step sizes, from the first sixteen projections. -/
def dt (p : Fin 1024 → Fin 144 → EReal) (wdt : Fin 16 → Fin 512 → EReal) (bias : Fin 512 → EReal) (l : Fin 1024) (d : Fin 512) : EReal :=
  softplus (∑ r : Fin 16, p l ⟨r.val, by omega⟩ * wdt r d + bias d)

/-- The state of the recurrence after `t` rows. -/
def state (dt x : Fin 1024 → Fin 512 → EReal) (b : Fin 1024 → Fin 64 → EReal) (alog : Fin 512 → Fin 64 → EReal) :
    ℕ → Fin 64 → Fin 512 → EReal
  | 0, _, _ => 0
  | t + 1, n, d =>
    if h : t < 1024 then
      Ideal.exp (dt ⟨t, h⟩ d * -(Ideal.exp (alog d n))) * state dt x b alog t n d + dt ⟨t, h⟩ d * x ⟨t, h⟩ d * b ⟨t, h⟩ n
    else state dt x b alog t n d

/-- The recurrence's output at row `l`, with the skip connection. -/
def y (dt x : Fin 1024 → Fin 512 → EReal) (b c : Fin 1024 → Fin 64 → EReal) (alog : Fin 512 → Fin 64 → EReal) (dsk : Fin 512 → EReal)
    (l : Fin 1024) (d : Fin 512) : EReal :=
  ∑ n, state dt x b alog (l.val + 1) n d * c l n + x l d * dsk d

/-- The second norm and product, on top of the input row. -/
def fin (src : Fin 1024 → Fin 256 → EReal) (ys : Fin 1024 → Fin 512 → EReal) (g b : Fin 512 → EReal) (w : Fin 512 → Fin 256 → EReal)
    (bo : Fin 256 → EReal) (l : Fin 1024) (e : Fin 256) : EReal :=
  src l e + (∑ d, norm (Ideal.ofBits FTy.f32 1140850688#32) (ys l) g b d * w d e + bo e)

/-- The layer's parameters, and one image. -/
structure Params where
  src : Fin 1024 → Fin 256 → EReal
  g1 : Fin 256 → EReal
  b1 : Fin 256 → EReal
  win : Fin 256 → Fin 512 → EReal
  bin : Fin 512 → EReal
  cw : Fin 3 → Fin 3 → Fin 512 → EReal
  cb : Fin 512 → EReal
  wx : Fin 512 → Fin 144 → EReal
  wdt : Fin 16 → Fin 512 → EReal
  dtb : Fin 512 → EReal
  alog : Fin 512 → Fin 64 → EReal
  dsk : Fin 512 → EReal
  g2 : Fin 512 → EReal
  b2 : Fin 512 → EReal
  wout : Fin 512 → Fin 256 → EReal
  bout : Fin 256 → EReal

/-- The parameters read from the arguments, and image `b`. -/
def ofArgs (a0 : Fin 4 → Fin 32 → Fin 32 → Fin 256 → EReal) (a1 a2 : Fin 256 → EReal) (a3 : Fin 256 → Fin 512 → EReal) (a4 : Fin 512 → EReal)
    (a5 : Fin 3 → Fin 3 → Fin 1 → Fin 512 → EReal) (a6 : Fin 512 → EReal) (a7 : Fin 512 → Fin 144 → EReal) (a8 : Fin 16 → Fin 512 → EReal)
    (a9 : Fin 512 → EReal) (a10 : Fin 512 → Fin 64 → EReal) (a11 a12 a13 : Fin 512 → EReal) (a14 : Fin 512 → Fin 256 → EReal)
    (a15 : Fin 256 → EReal) (b : Fin 4) : Params where
  src l x := a0 b ⟨l.val / 32, by omega⟩ ⟨l.val % 32, by omega⟩ x
  g1 := a1
  b1 := a2
  win := a3
  bin := a4
  cw i j d := a5 i j 0 d
  cb := a6
  wx := a7
  wdt := a8
  dtb := a9
  alog := a10
  dsk := a11
  g2 := a12
  b2 := a13
  wout := a14
  bout := a15

/-- The affine image of the normed input. -/
def Params.x (p : Params) : Fin 1024 → Fin 512 → EReal := x2 p.src p.g1 p.b1 p.win p.bin

/-- The activated convolution. -/
def Params.u (p : Params) (l : Fin 1024) (d : Fin 512) : EReal := gelu (conv p.x p.cw p.cb l d)

/-- The projections. -/
def Params.pr (p : Params) : Fin 1024 → Fin 144 → EReal := proj p.u p.wx

/-- The step sizes. -/
def Params.dt (p : Params) : Fin 1024 → Fin 512 → EReal := Spec.dt p.pr p.wdt p.dtb

/-- What the recurrence adds to the state. -/
def Params.bm (p : Params) (l : Fin 1024) (n : Fin 64) : EReal := p.pr l ⟨16 + n.val, by omega⟩

/-- What the recurrence reads the state with. -/
def Params.cm (p : Params) (l : Fin 1024) (n : Fin 64) : EReal := p.pr l ⟨80 + n.val, by omega⟩

/-- The state after `t` rows. -/
def Params.h (p : Params) : ℕ → Fin 64 → Fin 512 → EReal := state p.dt p.u p.bm p.alog

/-- The recurrence's output. -/
def Params.ys (p : Params) : Fin 1024 → Fin 512 → EReal := y p.dt p.u p.bm p.cm p.alog p.dsk

/-- The layer's output for the image. -/
def Params.out (p : Params) : Fin 1024 → Fin 256 → EReal := fin p.src p.ys p.g2 p.b2 p.wout p.bout

end Cert.Spec

end
-- ==== Proof.KVal.lean ====
/- What each piece of the kernel's body computes, over the extended reals, in the terms of Spec.lean. -/
module

public import proofs.«01_k».proof.Proof.Block
public import proofs.«01_k».proof.Proof.Spec
public import Idealize.ShloMosaic.Lib.Pointwise

@[expose] public section

set_option maxRecDepth 16384

noncomputable section

open Idealize.ShloMosaic Idealize.ShloMosaic.TcCoe Idealize.ShloMosaic.Tactic

namespace Cert.KernelIdeal.Value

open Cert.KernelIdeal Cert.KernelIdeal.Gen Cert.KernelIdeal.Trip Cert.KernelIdeal.Block

/-- A row `s` above, zero where there is none. -/
theorem shift_above (x : Fin 1024 → Fin 512 → EReal) (s k : ℕ) (hk : s + k = 33) (l : Fin 1024) (d : Fin 512) :
    (if h : l.val < s then 0 else x ⟨l.val - s, by omega⟩ d) = Spec.shift x k l d := by
  unfold Spec.shift
  by_cases h : l.val < s
  · rw [dif_pos h, dif_neg (by omega)]
  · rw [dif_neg h, dif_pos (by omega)]
    exact congrArg (fun t => x t d) (Fin.ext (by show l.val - s = l.val + k - 33; omega))

/-- A row `s` below, zero where there is none. -/
theorem shift_below (x : Fin 1024 → Fin 512 → EReal) (n s k : ℕ) (hn : n + s = 1024) (hk : k = 33 + s) (l : Fin 1024) (d : Fin 512) :
    (if h : l.val < n then x ⟨s + l.val, by omega⟩ d else 0) = Spec.shift x k l d := by
  unfold Spec.shift
  by_cases h : l.val < n
  · rw [dif_pos h, dif_pos (by omega)]
    exact congrArg (fun t => x t d) (Fin.ext (by show s + l.val = l.val + k - 33; omega))
  · rw [dif_neg h, dif_neg (by omega)]

/-- The row itself. -/
theorem shift_same (x : Fin 1024 → Fin 512 → EReal) (l : Fin 1024) (d : Fin 512) : x l d = Spec.shift x 33 l d := by
  unfold Spec.shift
  rw [dif_pos (by omega)]
  exact congrArg (fun t => x t d) (Fin.ext (by show l.val = l.val + 33 - 33; omega))

/-- The normed and multiplied input. -/
theorem pay334 (v0 : Vec Ideal S1x1024x256 .f32) (g b : Vec Ideal S1x256 .f32) (w : Vec Ideal S256x512 .f32) (bi : Vec Ideal S1x512 .f32)
    (l : Fin 1024) (d : Fin 512) :
    k0_pay334 v0 g b w bi (ix2 l d) = Spec.x2 (fun l x => v0 (ix3 0 l x)) (fun x => g (ix2 0 x)) (fun x => b (ix2 0 x))
      (fun x d => w (ix2 x d)) (fun d => bi (ix2 0 d)) l d := by
  pointwise [k0_pay334]
  rfl

/-- The upper two rows of the left column. -/
theorem pay340 (v : FVec Ideal S1024x512 .f32) (a b : Vec Ideal S1x512 .f32) (l : Fin 1024) (d : Fin 512) :
    k0_pay340 v a b (ix2 l d) = Spec.shift (fun l d => v (ix2 l d)) 0 l d * a (ix2 0 d)
      + Spec.shift (fun l d => v (ix2 l d)) 32 l d * b (ix2 0 d) := by
  pointwise [k0_pay340]
  rw [← shift_above (fun l d => v (ix2 l d)) 33 0 rfl, ← shift_above (fun l d => v (ix2 l d)) 1 32 rfl]

/-- The lower row of the left column. -/
theorem pay341 (v : FVec Ideal S1024x512 .f32) (a : Vec Ideal S1x512 .f32) (l : Fin 1024) (d : Fin 512) :
    k0_pay341 v a (ix2 l d) = Spec.shift (fun l d => v (ix2 l d)) 64 l d * a (ix2 0 d) := by
  pointwise [k0_pay341]
  rw [← shift_below (fun l d => v (ix2 l d)) 993 31 64 rfl rfl]

/-- The masked left column and the middle column. -/
theorem pay342 (v : FVec Ideal S1024x512 .f32) (m : FVec Ideal S1024x1 .f32) (p q : FVec Ideal S1024x512 .f32) (a b c : Vec Ideal S1x512 .f32)
    (l : Fin 1024) (d : Fin 512) :
    k0_pay342 v m p q a b c (ix2 l d) = (p (ix2 l d) + q (ix2 l d)) * m (ix2 l 0)
      + (Spec.shift (fun l d => v (ix2 l d)) 1 l d * a (ix2 0 d) + Spec.shift (fun l d => v (ix2 l d)) 33 l d * b (ix2 0 d)
        + Spec.shift (fun l d => v (ix2 l d)) 65 l d * c (ix2 0 d)) := by
  pointwise [k0_pay342]
  rw [← shift_above (fun l d => v (ix2 l d)) 32 1 rfl, ← shift_same, ← shift_below (fun l d => v (ix2 l d)) 992 32 65 rfl rfl]

/-- The upper two rows of the right column. -/
theorem pay343 (v : FVec Ideal S1024x512 .f32) (a b : Vec Ideal S1x512 .f32) (l : Fin 1024) (d : Fin 512) :
    k0_pay343 v a b (ix2 l d) = Spec.shift (fun l d => v (ix2 l d)) 2 l d * a (ix2 0 d)
      + Spec.shift (fun l d => v (ix2 l d)) 34 l d * b (ix2 0 d) := by
  pointwise [k0_pay343]
  rw [← shift_above (fun l d => v (ix2 l d)) 31 2 rfl, ← shift_below (fun l d => v (ix2 l d)) 1023 1 34 rfl rfl]

/-- The lower row of the right column. -/
theorem pay344 (v : FVec Ideal S1024x512 .f32) (l : Fin 1024) (d : Fin 512) :
    k0_pay344 v (ix2 l d) = Spec.shift (fun l d => v (ix2 l d)) 66 l d := by
  pointwise [k0_pay344]
  rw [← shift_below (fun l d => v (ix2 l d)) 991 33 66 rfl rfl]

/-- The word the left mask tests. -/
theorem word_left : ∀ l : Fin 1024, cmpi .sge (k0_pay337 lane k0_pay335 k0_pay336) (broadcast S1024x1 1#32) (ix2 l 0)
    = if 1 ≤ l.val % 32 then 1#1 else 0#1 := by decide +kernel

/-- The word the right mask tests. -/
theorem word_right : ∀ l : Fin 1024, cmpi .sle (k0_pay337 lane k0_pay335 k0_pay336) (broadcast S1024x1 30#32) (ix2 l 0)
    = if l.val % 32 ≤ 30 then 1#1 else 0#1 := by decide +kernel

/-- The left mask is off on the first column alone. -/
theorem mask_left (l : Fin 1024) : (maskL (F := Ideal)) (ix2 l 0) = if 1 ≤ l.val % 32 then 1 else 0 := by
  show Scalar.select (cmpi .sge (k0_pay337 lane k0_pay335 k0_pay336) (broadcast S1024x1 1#32) (ix2 l 0))
    (broadcast S1024x1 (Scalar.ofBits (F := Ideal) .f32 0x3F800000#32) (ix2 l 0)) (broadcast S1024x1 (Scalar.ofBits (F := Ideal) .f32 0x00000000#32) (ix2 l 0)) = _
  rw [word_left]
  by_cases h : 1 ≤ l.val % 32
  · rw [if_pos h, if_pos h]; pointwise []
  · rw [if_neg h, if_neg h]; pointwise []

/-- The right mask is off on the last column alone. -/
theorem mask_right (l : Fin 1024) : (maskR (F := Ideal)) (ix2 l 0) = if l.val % 32 ≤ 30 then 1 else 0 := by
  show Scalar.select (cmpi .sle (k0_pay337 lane k0_pay335 k0_pay336) (broadcast S1024x1 30#32) (ix2 l 0))
    (broadcast S1024x1 (Scalar.ofBits (F := Ideal) .f32 0x3F800000#32) (ix2 l 0)) (broadcast S1024x1 (Scalar.ofBits (F := Ideal) .f32 0x00000000#32) (ix2 l 0)) = _
  rw [word_right]
  by_cases h : l.val % 32 ≤ 30
  · rw [if_pos h, if_pos h]; pointwise []
  · rw [if_neg h, if_neg h]; pointwise []

/-- Row `r` of the nine convolution rows. -/
theorem row_read (w : Vec Ideal S9x512 .f32) (r : Fin 9) (h) (d : Fin 512) :
    View.ld (Val := Elt Ideal) w (Rect.unit (s := S9x512) ![r.val, 0] S1x512.size h) (ix2 0 d) = w (ix2 r d) := by
  refine congrArg w (funext fun i => ?_)
  fin_cases i
  · exact Fin.ext (by show r.val + 1 * 0 = r.val; omega)
  · exact Fin.ext (by show 0 + 1 * d.val = d.val; omega)

/-- The convolution rows as a 3 × 3 grid. -/
def grid9 (w : Vec Ideal S9x512 .f32) (i j : Fin 3) (d : Fin 512) : EReal := w (ix2 ⟨3 * i.val + j.val, by omega⟩ d)

/-- The activation's argument and value. -/
theorem pay345 (v58 : FVec Ideal S1024x1 .f32) (v104 v119 v122 : FVec Ideal S1024x512 .f32) (v123 v131 : Vec Ideal S1x512 .f32)
    (l : Fin 1024) (d : Fin 512) :
    k0_pay345 v58 v104 v119 v122 v123 v131 (ix2 l d)
      = Spec.gelu (v104 (ix2 l d) + (v119 (ix2 l d) + v122 (ix2 l d) * v123 (ix2 0 d)) * v58 (ix2 l 0) + v131 (ix2 0 d)) := by
  pointwise [k0_pay345]
  rfl

/-- The activated convolution, flat. -/
theorem xg_eq (v : FVec Ideal S1024x512 .f32) (w : Vec Ideal S9x512 .f32) (b : Vec Ideal S1x512 .f32) (l : Fin 1024) (d : Fin 512) :
    xg v w b (ix2 l d) = Spec.gelu (Spec.conv (fun l d => v (ix2 l d)) (grid9 w) (fun d => b (ix2 0 d)) l d) := by
  unfold xg conv01
  rw [pay345, pay342, pay340, pay341, pay343, pay344, mask_left, mask_right]
  refine congrArg Spec.gelu ?_
  have e0 : w0 w (ix2 0 d) = grid9 w 0 0 d := row_read w 0 _ d
  have e1 : w1 w (ix2 0 d) = grid9 w 0 1 d := row_read w 1 _ d
  have e2 : w2 w (ix2 0 d) = grid9 w 0 2 d := row_read w 2 _ d
  have e3 : w3 w (ix2 0 d) = grid9 w 1 0 d := row_read w 3 _ d
  have e4 : w4 w (ix2 0 d) = grid9 w 1 1 d := row_read w 4 _ d
  have e5 : w5 w (ix2 0 d) = grid9 w 1 2 d := row_read w 5 _ d
  have e6 : w6 w (ix2 0 d) = grid9 w 2 0 d := row_read w 6 _ d
  have e7 : w7 w (ix2 0 d) = grid9 w 2 1 d := row_read w 7 _ d
  have e8 : w8 w (ix2 0 d) = grid9 w 2 2 d := row_read w 8 _ d
  rw [e0, e1, e2, e3, e4, e5, e6, e7, e8]
  generalize grid9 w = g
  unfold Spec.conv Spec.tap
  generalize (fun (l : Fin 1024) (d : Fin 512) => v (ix2 l d)) = f
  simp only [Fin.sum_univ_three, Fin.val_zero, Fin.val_one, Fin.val_two, Nat.mul_zero, Nat.mul_one, Nat.reduceMul, Nat.reduceAdd, Nat.zero_add]
  have hm : l.val % 32 < 32 := Nat.mod_lt _ (by omega)
  rw [if_pos (show 1 ≤ l.val % 32 + 1 ∧ l.val % 32 + 1 < 33 by omega), if_pos (show 1 ≤ l.val % 32 + 1 ∧ l.val % 32 + 1 < 33 by omega),
    if_pos (show 1 ≤ l.val % 32 + 1 ∧ l.val % 32 + 1 < 33 by omega)]
  by_cases hL : 1 ≤ l.val % 32 <;> by_cases hR : l.val % 32 ≤ 30
  · simp only [hL, hR, show l.val % 32 < 33 by omega, add_zero, true_and, show 1 ≤ l.val % 32 + 2 by omega, show l.val % 32 + 2 < 33 by omega, show 1 ≤ l.val % 32 + 0 by omega, and_self, if_true, mul_one]
    abel
  · simp only [hL, hR, show l.val % 32 < 33 by omega, add_zero, true_and, show 1 ≤ l.val % 32 + 2 by omega, show ¬ l.val % 32 + 2 < 33 by omega, show 1 ≤ l.val % 32 + 0 by omega, and_self, and_false, if_true, if_false, mul_one, mul_zero, zero_mul, add_zero]
    abel
  · simp only [hL, hR, show l.val % 32 < 33 by omega, add_zero, true_and, show 1 ≤ l.val % 32 + 2 by omega, show l.val % 32 + 2 < 33 by omega, show ¬ 1 ≤ l.val % 32 + 0 by omega, and_self, false_and, if_true, if_false, mul_one, mul_zero, zero_mul, zero_add]
    abel
  · omega

/-- `log (1 + exp z)` and the step sizes. -/
theorem pay350 (v58 : FVec Ideal S1024x144 .f32) (v123 : Vec Ideal S16x512 .f32) (v131 : Vec Ideal S1x512 .f32)
    (l : Fin 1024) (d : Fin 512) :
    k0_pay350 v58 v123 v131 (ix2 l d) = Spec.dt (fun l j => v58 (ix2 l j)) (fun r d => v123 (ix2 r d)) (fun d => v131 (ix2 0 d)) l d := by
  pointwise [k0_pay350]
  rw [if_neg (not_not.2 rfl), zero_sub]
  rfl

/-- The projections. -/
theorem pay347 (v58 : FVec Ideal S1024x1 .f32) (v104 v119 v122 : FVec Ideal S1024x512 .f32) (v123 v131 : Vec Ideal S1x512 .f32)
    (wx : Vec Ideal S512x144 .f32) (l : Fin 1024) (j : Fin 144) :
    k0_pay347 v58 v104 v119 v122 v123 v131 wx (ix2 l j)
      = Spec.proj (fun l d => k0_pay345 v58 v104 v119 v122 v123 v131 (ix2 l d)) (fun d j => wx (ix2 d j)) l j := by
  pointwise [k0_pay347]
  rfl

/-- The activated convolution in chunks is the flat one. -/
theorem xg3_eq (v : FVec Ideal S1024x512 .f32) (w : Vec Ideal S9x512 .f32) (b : Vec Ideal S1x512 .f32) (k : Fin 8) (j : Fin 128) (d : Fin 512) :
    xg3 v w b (ix3 k j d) = xg v w b (ix2 ⟨k.val * 128 + j.val, by omega⟩ d) := by
  pointwise [xg3, k0_pay346]
  rfl

/-- The projections of a row. -/
theorem prj_eq (v : FVec Ideal S1024x512 .f32) (w : Vec Ideal S9x512 .f32) (b : Vec Ideal S1x512 .f32) (wx : Vec Ideal S512x144 .f32)
    (l : Fin 1024) (j : Fin 144) :
    prj v w b wx (ix2 l j) = Spec.proj (fun l d => xg v w b (ix2 l d)) (fun d j => wx (ix2 d j)) l j :=
  pay347 _ _ _ _ _ _ _ l j

/-- The `B` projections in chunks. -/
theorem b3_eq (v : FVec Ideal S1024x512 .f32) (w : Vec Ideal S9x512 .f32) (b : Vec Ideal S1x512 .f32) (wx : Vec Ideal S512x144 .f32)
    (k : Fin 8) (j : Fin 128) (n : Fin 64) :
    b3 v w b wx (ix3 k j n) = prj v w b wx (ix2 ⟨k.val * 128 + j.val, by omega⟩ ⟨16 + n.val, by omega⟩) := by
  pointwise [b3, k0_pay348]
  rfl

/-- The `C` projections in chunks. -/
theorem c3_eq (v : FVec Ideal S1024x512 .f32) (w : Vec Ideal S9x512 .f32) (b : Vec Ideal S1x512 .f32) (wx : Vec Ideal S512x144 .f32)
    (k : Fin 8) (j : Fin 128) (n : Fin 64) :
    c3 v w b wx (ix3 k j n) = prj v w b wx (ix2 ⟨k.val * 128 + j.val, by omega⟩ ⟨80 + n.val, by omega⟩) := by
  pointwise [c3, k0_pay349]
  rfl

/-- The step sizes in chunks. -/
theorem pay351 (v58 : FVec Ideal S1024x144 .f32) (v123 : Vec Ideal S16x512 .f32) (v131 : Vec Ideal S1x512 .f32)
    (k : Fin 8) (j : Fin 128) (d : Fin 512) :
    k0_pay351 v58 v123 v131 (ix3 k j d) = k0_pay350 v58 v123 v131 (ix2 ⟨k.val * 128 + j.val, by omega⟩ d) := by
  pointwise [k0_pay351]

/-- The step sizes times the inputs, in chunks. -/
theorem pay352 (u : FVec Ideal S1024x512 .f32) (v58 : FVec Ideal S1024x144 .f32) (v123 : Vec Ideal S16x512 .f32) (v131 : Vec Ideal S1x512 .f32)
    (k : Fin 8) (j : Fin 128) (d : Fin 512) :
    k0_pay352 u v58 v123 v131 (ix3 k j d)
      = k0_pay350 v58 v123 v131 (ix2 ⟨k.val * 128 + j.val, by omega⟩ d) * u (ix2 ⟨k.val * 128 + j.val, by omega⟩ d) := by
  pointwise [k0_pay352]

/-- The last step of the body: product, bias and residual, over the normed rows. -/
theorem pay1_eq (v v1 : Vec Ideal S8x128x512 .f32) (dsk g b : Vec Ideal S1x512 .f32) (s : Vec Ideal S1x1024x256 .f32)
    (w : Vec Ideal S512x256 .f32) (bo : Vec Ideal S1x256 .f32) (l : Fin 1024) (e : Fin 256) :
    k0_pay1 (k0_pay361 v v1 dsk g) (k0_pay362 b) s w bo (ix3 0 l e)
      = Spec.fin (fun l x => s (ix3 0 l x))
          (fun l d => v (ix3 ⟨l.val / 128, by omega⟩ ⟨l.val % 128, by omega⟩ d) + v1 (ix3 ⟨l.val / 128, by omega⟩ ⟨l.val % 128, by omega⟩ d) * dsk (ix2 0 d))
          (fun d => g (ix2 0 d)) (fun d => b (ix2 0 d)) (fun d e => w (ix2 d e)) (fun e => bo (ix2 0 e)) l e := by
  pointwise [k0_pay1, k0_pay361, k0_pay362]
  rw [add_assoc]
  rfl

end Cert.KernelIdeal.Value

end
-- ==== Proof.KScan.lean ====
/- The kernel's chunked recurrence computes the recurrence of Spec.lean. -/
module

public import proofs.«01_k».proof.Proof.Block
public import proofs.«01_k».proof.Proof.Spec
public import Idealize.ShloMosaic.Lib.Pointwise

@[expose] public section

set_option maxRecDepth 16384

noncomputable section

open Idealize.ShloMosaic Idealize.ShloMosaic.TcCoe Idealize.ShloMosaic.Tactic

namespace Cert.KernelIdeal.Value

open Cert.KernelIdeal Cert.KernelIdeal.Gen Cert.KernelIdeal.Trip Cert.KernelIdeal.Block

/-- A power of two of a multiple of `1 / log 2` is an exponential. -/
theorem exp2_log2e (z : EReal) : Ideal.exp2 (z * (((Real.log 2)⁻¹ : ℝ) : EReal)) = Ideal.exp z := by
  have hp : 0 < (Real.log 2)⁻¹ := inv_pos.2 (Real.log_pos (by norm_num))
  induction z using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    refine congrArg _ ?_
    show (2 : ℝ) ^ (r * (Real.log 2)⁻¹) = Real.exp r
    rw [Real.rpow_def_of_pos (by norm_num), mul_comm r, mul_inv_cancel_left₀ (Real.log_pos (by norm_num)).ne']

/-- The named literal is `1 / log 2`. -/
theorem named_log2e : Named.named (F := Ideal) κ "log2e" (φ := .f32) 0x3FB8AA3B#32 = (((Real.log 2)⁻¹ : ℝ) : EReal) :=
  IdealRules.named_const.ideal_named_scalar _ _ _ _ rfl

/-- The scaled decay rates. -/
theorem pay354 (v : Vec Ideal S64x512 .f32) (n : Fin 64) (d : Fin 512) :
    k0_pay354 (k0_pay353 v) (ix2 n d) = -(Ideal.exp (v (ix2 n d))) * (((Real.log 2)⁻¹ : ℝ) : EReal) := by
  pointwise [k0_pay354, k0_pay353]
  rw [zero_sub]
  exact congrArg _ named_log2e

/-- One step of the recurrence at an entry. -/
theorem stepH_eq (dt dtx : FVec Ideal S128x512 .f32) (bT : FVec Ideal S64x128 .f32) (a : Vec Ideal S64x512 .f32) (j : Fin 128)
    (h : FVec Ideal S64x512 .f32) (n : Fin 64) (d : Fin 512) :
    stepH dt dtx bT a j.val h (ix2 n d) = Ideal.exp2 (dt (ix2 j d) * a (ix2 n d)) * h (ix2 n d) + dtx (ix2 j d) * bT (ix2 n j) := by
  have e : (⟨j.val % 128, Nat.mod_lt _ (by omega)⟩ : Fin 128) = j := Fin.ext (Nat.mod_eq_of_lt j.isLt)
  pointwise [stepH]
  rw [e]
  rfl

/-- A row of outputs at an entry. -/
theorem rowOut_eq (cT : FVec Ideal S64x128 .f32) (j : Fin 128) (h : FVec Ideal S64x512 .f32) (d : Fin 512) :
    rowOut cT j.val h (ix3 0 0 d) = ∑ n, h (ix2 n d) * cT (ix2 n j) := by
  have e : (⟨j.val % 128, Nat.mod_lt _ (by omega)⟩ : Fin 128) = j := Fin.ext (Nat.mod_eq_of_lt j.isLt)
  pointwise [rowOut]
  exact Finset.sum_congr rfl fun n _ => congrArg (fun i => h (ix2 n d) * cT (ix2 n i)) e

/-- A row of a chunk of 512-wide rows. -/
theorem chunk_read (x : FVec Ideal S8x128x512 .f32) (k : Fin k0_t1_loop.trips) (hk : k.val < 8) (j : Fin 128) (d : Fin 512) :
    chunk x k (ix3 0 j d) = x (ix3 ⟨k.val, hk⟩ j d) := by
  refine congrArg x (funext fun i => ?_)
  have h := trip_word k
  fin_cases i
  · exact Fin.ext (by show BitVec.toNat (Scalar.indexCast (Scf.iv 0#32 1#32 k.val)) + 1 * 0 = k.val; omega)
  · exact Fin.ext (by show 0 + 1 * j.val = j.val; omega)
  · exact Fin.ext (by show 0 + 1 * d.val = d.val; omega)

/-- A row of a chunk of 64-wide rows. -/
theorem chunkS_read (x : FVec Ideal S8x128x64 .f32) (k : Fin k0_t1_loop.trips) (hk : k.val < 8) (j : Fin 128) (n : Fin 64) :
    chunkS x k (ix3 0 j n) = x (ix3 ⟨k.val, hk⟩ j n) := by
  refine congrArg x (funext fun i => ?_)
  have h := trip_word k
  fin_cases i
  · exact Fin.ext (by show BitVec.toNat (Scalar.indexCast (Scf.iv 0#32 1#32 k.val)) + 1 * 0 = k.val; omega)
  · exact Fin.ext (by show 0 + 1 * j.val = j.val; omega)
  · exact Fin.ext (by show 0 + 1 * n.val = n.val; omega)

theorem pay2_eq (x : FVec Ideal S8x128x512 .f32) (k : Fin k0_t1_loop.trips) (hk : k.val < 8) (j : Fin 128) (d : Fin 512) :
    k0_pay2 (chunk x k) (ix2 j d) = x (ix3 ⟨k.val, hk⟩ j d) := by
  pointwise [k0_pay2]
  exact chunk_read x k hk j d

theorem pay3_eq (x : FVec Ideal S8x128x512 .f32) (k : Fin k0_t1_loop.trips) (hk : k.val < 8) (j : Fin 128) (d : Fin 512) :
    k0_pay3 (chunk x k) (ix2 j d) = x (ix3 ⟨k.val, hk⟩ j d) := by
  pointwise [k0_pay3]
  exact chunk_read x k hk j d

theorem pay4_eq (x : FVec Ideal S8x128x64 .f32) (k : Fin k0_t1_loop.trips) (hk : k.val < 8) (j : Fin 128) (n : Fin 64) :
    k0_pay4 (chunkS x k) (ix2 n j) = x (ix3 ⟨k.val, hk⟩ j n) := by
  pointwise [k0_pay4]
  exact chunkS_read x k hk j n

theorem pay5_eq (x : FVec Ideal S8x128x64 .f32) (k : Fin k0_t1_loop.trips) (hk : k.val < 8) (j : Fin 128) (n : Fin 64) :
    k0_pay5 (chunkS x k) (ix2 n j) = x (ix3 ⟨k.val, hk⟩ j n) := by
  pointwise [k0_pay5]
  exact chunkS_read x k hk j n

/-- Row `j` of chunk `k`. -/
def row (k : Fin 8) (j : Fin 128) : Fin 1024 := ⟨k.val * 128 + j.val, by omega⟩

section

variable (D X : Fin 1024 → Fin 512 → EReal) (B C : Fin 1024 → Fin 64 → EReal) (A : Fin 512 → Fin 64 → EReal)

/-- One step of the specification's state, at a row. -/
theorem state_succ (t : ℕ) (h : t < 1024) (n : Fin 64) (d : Fin 512) :
    Spec.state D X B A (t + 1) n d
      = Ideal.exp (D ⟨t, h⟩ d * -(Ideal.exp (A d n))) * Spec.state D X B A t n d + D ⟨t, h⟩ d * X ⟨t, h⟩ d * B ⟨t, h⟩ n := by
  rw [Spec.state, dif_pos h]

variable (dt dtx : FVec Ideal S8x128x512 .f32) (b c : FVec Ideal S8x128x64 .f32) (a : Vec Ideal S64x512 .f32)
  (hdt : ∀ (k : Fin 8) (j : Fin 128) (d : Fin 512), dt (ix3 k j d) = D (row k j) d)
  (hdtx : ∀ (k : Fin 8) (j : Fin 128) (d : Fin 512),
    dtx (ix3 k j d) = D (row k j) d * X (row k j) d)
  (hb : ∀ (k : Fin 8) (j : Fin 128) (n : Fin 64), b (ix3 k j n) = B (row k j) n)
  (hc : ∀ (k : Fin 8) (j : Fin 128) (n : Fin 64), c (ix3 k j n) = C (row k j) n)
  (ha : ∀ (n : Fin 64) (d : Fin 512), a (ix2 n d) = -(Ideal.exp (A d n)) * (((Real.log 2)⁻¹ : ℝ) : EReal))

include hdt hdtx hb ha

/-- Within a chunk: from the state before the chunk, `j` steps give the state `j` rows later. -/
theorem stateAt_eq (k : Fin k0_t1_loop.trips) (hk : k.val < 8) (h : FVec Ideal S64x512 .f32)
    (hh : ∀ n d, h (ix2 n d) = Spec.state D X B A (k.val * 128) n d) (j : ℕ) (hj : j ≤ 128) (n : Fin 64) (d : Fin 512) :
    stateAt (k0_pay2 (chunk dt k)) (k0_pay3 (chunk dtx k)) (k0_pay4 (chunkS b k)) a h j (ix2 n d)
      = Spec.state D X B A (k.val * 128 + j) n d := by
  induction j with
  | zero => exact hh n d
  | succ j ih =>
    refine (stepH_eq _ _ _ a ⟨j, by omega⟩ (stateAt (k0_pay2 (chunk dt k)) (k0_pay3 (chunk dtx k)) (k0_pay4 (chunkS b k)) a h j) n d).trans ?_
    rw [ih (by omega), pay2_eq _ k hk, pay3_eq _ k hk, pay4_eq _ k hk, hdt, hdtx, hb, ha, ← mul_assoc, exp2_log2e]
    exact (state_succ D X B A (k.val * 128 + j) (by omega) n d).symm

/-- Before chunk `k` the carried state is the state after `128 k` rows. -/
theorem hAt_eq (k : ℕ) (hk : k ≤ 8) (n : Fin 64) (d : Fin 512) :
    hAt (fun k => k0_pay2 (chunk dt k)) (fun k => k0_pay3 (chunk dtx k)) (fun k => k0_pay4 (chunkS b k)) a k0_pay355 k (ix2 n d)
      = Spec.state D X B A (k * 128) n d := by
  induction k generalizing n d with
  | zero =>
    show k0_pay355 (ix2 n d) = 0
    pointwise [k0_pay355]
  | succ k ih =>
    have hT : k < k0_t1_loop.trips := lt_of_lt_of_eq (by omega : k < 8) trips_eq.symm
    rw [hAt, dif_pos hT]
    refine (stateAt_eq D X B A dt dtx b a hdt hdtx hb ha ⟨k, hT⟩ (by show k < 8; omega) _ (fun n d => ih (by omega) n d) 128 le_rfl n d).trans ?_
    show Spec.state D X B A (k * 128 + 128) n d = _
    rw [Nat.succ_mul]

include hc in
/-- The chunked recurrence's outputs. -/
theorem scan_eq (k : Fin 8) (j : Fin 128) (d : Fin 512) :
    scan dt dtx b c a (ix3 k j d)
      = ∑ n, Spec.state D X B A (k.val * 128 + j.val + 1) n d * C (row k j) n := by
  have hT : k.val < k0_t1_loop.trips := lt_of_lt_of_eq k.isLt trips_eq.symm
  refine (rowOut_eq _ j _ d).trans (Finset.sum_congr rfl fun n _ => ?_)
  refine congrArg₂ (· * ·) ?_ ?_
  · exact stateAt_eq D X B A dt dtx b a hdt hdtx hb ha ⟨k.val, hT⟩ k.isLt _
      (fun n d => hAt_eq D X B A dt dtx b a hdt hdtx hb ha k.val (by omega) n d) (j.val + 1) (by omega) n d
  · exact (pay5_eq c ⟨k.val, hT⟩ k.isLt j n).trans (hc k j n)

end

end Cert.KernelIdeal.Value

end
-- ==== Proof.KOut.lean ====
/- The block the kernel writes is the layer of Spec.lean on its input blocks. -/
module

public import proofs.«01_k».proof.Proof.KVal
public import proofs.«01_k».proof.Proof.KScan

@[expose] public section

set_option maxRecDepth 16384

noncomputable section

open Idealize.ShloMosaic Idealize.ShloMosaic.TcCoe Idealize.ShloMosaic.Tactic

namespace Cert.KernelIdeal.Value

open Cert.KernelIdeal Cert.KernelIdeal.Gen Cert.KernelIdeal.Block

variable (x0 : Vec Ideal S1x1024x256 .f32) (x1 x2 : Vec Ideal S1x256 .f32) (x3 : Vec Ideal S256x512 .f32) (x4 : Vec Ideal S1x512 .f32)
  (x5 : Vec Ideal S9x512 .f32) (x6 : Vec Ideal S1x512 .f32) (x7 : Vec Ideal S512x144 .f32) (x8 : Vec Ideal S16x512 .f32)
  (x9 : Vec Ideal S1x512 .f32) (x10 : Vec Ideal S64x512 .f32) (x11 x12 x13 : Vec Ideal S1x512 .f32) (x14 : Vec Ideal S512x256 .f32)
  (x15 : Vec Ideal S1x256 .f32)

/-- The layer's parameters and image, read from the sixteen blocks. -/
def blockParams : Spec.Params where
  src l x := x0 (ix3 0 l x)
  g1 x := x1 (ix2 0 x)
  b1 x := x2 (ix2 0 x)
  win x d := x3 (ix2 x d)
  bin d := x4 (ix2 0 d)
  cw := grid9 x5
  cb d := x6 (ix2 0 d)
  wx d j := x7 (ix2 d j)
  wdt r d := x8 (ix2 r d)
  dtb d := x9 (ix2 0 d)
  alog d n := x10 (ix2 n d)
  dsk d := x11 (ix2 0 d)
  g2 d := x12 (ix2 0 d)
  b2 d := x13 (ix2 0 d)
  wout d e := x14 (ix2 d e)
  bout e := x15 (ix2 0 e)

/-- The activated convolution of the blocks. -/
theorem xg_blk (l : Fin 1024) (d : Fin 512) : xg (k0_pay334 x0 x1 x2 x3 x4) x5 x6 (ix2 l d) = (blockParams x0 x1 x2 x3 x4 x5 x6 x7 x8 x9 x10 x11 x12 x13 x14 x15).u l d := by
  rw [xg_eq]
  have h : (fun l d => k0_pay334 x0 x1 x2 x3 x4 (ix2 l d)) = (blockParams x0 x1 x2 x3 x4 x5 x6 x7 x8 x9 x10 x11 x12 x13 x14 x15).x := funext fun l => funext fun d => pay334 x0 x1 x2 x3 x4 l d
  rw [h]
  rfl

/-- The projections of the blocks. -/
theorem prj_blk (l : Fin 1024) (j : Fin 144) : prj (k0_pay334 x0 x1 x2 x3 x4) x5 x6 x7 (ix2 l j) = (blockParams x0 x1 x2 x3 x4 x5 x6 x7 x8 x9 x10 x11 x12 x13 x14 x15).pr l j := by
  rw [prj_eq]
  have h : (fun l d => xg (k0_pay334 x0 x1 x2 x3 x4) x5 x6 (ix2 l d)) = (blockParams x0 x1 x2 x3 x4 x5 x6 x7 x8 x9 x10 x11 x12 x13 x14 x15).u :=
    funext fun l => funext fun d => xg_blk x0 x1 x2 x3 x4 x5 x6 x7 x8 x9 x10 x11 x12 x13 x14 x15 l d
  rw [h]
  rfl

/-- The step sizes of the blocks. -/
theorem dt_blk (l : Fin 1024) (d : Fin 512) :
    k0_pay350 (prj (k0_pay334 x0 x1 x2 x3 x4) x5 x6 x7) x8 x9 (ix2 l d) = (blockParams x0 x1 x2 x3 x4 x5 x6 x7 x8 x9 x10 x11 x12 x13 x14 x15).dt l d := by
  rw [pay350]
  have h : (fun l j => prj (k0_pay334 x0 x1 x2 x3 x4) x5 x6 x7 (ix2 l j)) = (blockParams x0 x1 x2 x3 x4 x5 x6 x7 x8 x9 x10 x11 x12 x13 x14 x15).pr :=
    funext fun l => funext fun j => prj_blk x0 x1 x2 x3 x4 x5 x6 x7 x8 x9 x10 x11 x12 x13 x14 x15 l j
  rw [h]
  rfl

/-- The chunked recurrence of the blocks. -/
theorem scan_blk (k : Fin 8) (j : Fin 128) (d : Fin 512) :
    scan (k0_pay351 (prj (k0_pay334 x0 x1 x2 x3 x4) x5 x6 x7) x8 x9)
        (k0_pay352 (xg (k0_pay334 x0 x1 x2 x3 x4) x5 x6) (prj (k0_pay334 x0 x1 x2 x3 x4) x5 x6 x7) x8 x9)
        (b3 (k0_pay334 x0 x1 x2 x3 x4) x5 x6 x7) (c3 (k0_pay334 x0 x1 x2 x3 x4) x5 x6 x7) (k0_pay354 (k0_pay353 x10)) (ix3 k j d)
      = ∑ n, (blockParams x0 x1 x2 x3 x4 x5 x6 x7 x8 x9 x10 x11 x12 x13 x14 x15).h (k.val * 128 + j.val + 1) n d * (blockParams x0 x1 x2 x3 x4 x5 x6 x7 x8 x9 x10 x11 x12 x13 x14 x15).cm (row k j) n :=
  scan_eq (blockParams x0 x1 x2 x3 x4 x5 x6 x7 x8 x9 x10 x11 x12 x13 x14 x15).dt (blockParams x0 x1 x2 x3 x4 x5 x6 x7 x8 x9 x10 x11 x12 x13 x14 x15).u (blockParams x0 x1 x2 x3 x4 x5 x6 x7 x8 x9 x10 x11 x12 x13 x14 x15).bm (blockParams x0 x1 x2 x3 x4 x5 x6 x7 x8 x9 x10 x11 x12 x13 x14 x15).cm (blockParams x0 x1 x2 x3 x4 x5 x6 x7 x8 x9 x10 x11 x12 x13 x14 x15).alog _ _ _ _ _
    (fun k j d => (pay351 _ x8 x9 k j d).trans (dt_blk x0 x1 x2 x3 x4 x5 x6 x7 x8 x9 x10 x11 x12 x13 x14 x15 _ d))
    (fun k j d => (pay352 _ _ x8 x9 k j d).trans (congrArg₂ (· * ·)
      (dt_blk x0 x1 x2 x3 x4 x5 x6 x7 x8 x9 x10 x11 x12 x13 x14 x15 _ d) (xg_blk x0 x1 x2 x3 x4 x5 x6 x7 x8 x9 x10 x11 x12 x13 x14 x15 _ d)))
    (fun k j n => (b3_eq _ x5 x6 x7 k j n).trans (prj_blk x0 x1 x2 x3 x4 x5 x6 x7 x8 x9 x10 x11 x12 x13 x14 x15 _ _))
    (fun k j n => (c3_eq _ x5 x6 x7 k j n).trans (prj_blk x0 x1 x2 x3 x4 x5 x6 x7 x8 x9 x10 x11 x12 x13 x14 x15 _ _))
    (fun n d => pay354 x10 n d) k j d

/-- The written block is the layer's output. -/
theorem out_eq (l : Fin 1024) (e : Fin 256) :
    Block.out x0 x1 x2 x3 x4 x5 x6 x7 x8 x9 x10 x11 x12 x13 x14 x15 (ix3 0 l e) = (blockParams x0 x1 x2 x3 x4 x5 x6 x7 x8 x9 x10 x11 x12 x13 x14 x15).out l e := by
  unfold Block.out
  rw [pay1_eq]
  refine congrArg (fun ys => Spec.fin (blockParams x0 x1 x2 x3 x4 x5 x6 x7 x8 x9 x10 x11 x12 x13 x14 x15).src ys (blockParams x0 x1 x2 x3 x4 x5 x6 x7 x8 x9 x10 x11 x12 x13 x14 x15).g2 (blockParams x0 x1 x2 x3 x4 x5 x6 x7 x8 x9 x10 x11 x12 x13 x14 x15).b2 (blockParams x0 x1 x2 x3 x4 x5 x6 x7 x8 x9 x10 x11 x12 x13 x14 x15).wout (blockParams x0 x1 x2 x3 x4 x5 x6 x7 x8 x9 x10 x11 x12 x13 x14 x15).bout l e) (funext fun l => funext fun d => ?_)
  have e : (⟨l.val / 128 * 128 + l.val % 128, by omega⟩ : Fin 1024) = l := Fin.ext (by show l.val / 128 * 128 + l.val % 128 = l.val; omega)
  rw [scan_blk, xg3_eq, xg_blk x0 x1 x2 x3 x4 x5 x6 x7 x8 x9 x10 x11 x12 x13 x14 x15]
  show ∑ n, (blockParams x0 x1 x2 x3 x4 x5 x6 x7 x8 x9 x10 x11 x12 x13 x14 x15).h (l.val / 128 * 128 + l.val % 128 + 1) n d * (blockParams x0 x1 x2 x3 x4 x5 x6 x7 x8 x9 x10 x11 x12 x13 x14 x15).cm ⟨l.val / 128 * 128 + l.val % 128, _⟩ n
    + (blockParams x0 x1 x2 x3 x4 x5 x6 x7 x8 x9 x10 x11 x12 x13 x14 x15).u ⟨l.val / 128 * 128 + l.val % 128, _⟩ d * (blockParams x0 x1 x2 x3 x4 x5 x6 x7 x8 x9 x10 x11 x12 x13 x14 x15).dsk d = _
  rw [e, show l.val / 128 * 128 + l.val % 128 = l.val by omega]
  rfl

end Cert.KernelIdeal.Value

end
-- ==== Proof.KFinal.lean ====
/- The array the kernel leaves is the layer of Spec.lean on the kernel's arguments, image by image. -/
module

public import proofs.«01_k».proof.Proof.KOut
public import proofs.«01_k».proof.Proof.Launch
public import Idealize.ShloMosaic.Lib.Pipeline.ValueKit

@[expose] public section

set_option maxRecDepth 16384

noncomputable section

open Idealize.ShloMosaic Idealize.ShloMosaic.TcCoe Idealize.ShloMosaic.Tactic
open Idealize.ShloMosaic.Pipeline (Dat Cfg Window)

namespace Cert.KernelIdeal.Value

open Cert.KernelIdeal Cert.KernelIdeal.Gen Cert.KernelIdeal.Hand

variable (m : (ℓ : Loc nD τ sig) → Buf (Elt Ideal) ℓ) (c : Dev nD)

/-- The layer's parameters and the `b`-th image, read from the kernel's arguments. -/
def argParams (b : Fin 4) : Spec.Params :=
  Spec.ofArgs (fun b y x e => m ((c.tc : Thread nD τ).loc main_arg0) (ix4 b y x e)) (fun e => m ((c.tc : Thread nD τ).loc main_arg1) (ix1 e))
    (fun e => m ((c.tc : Thread nD τ).loc main_arg2) (ix1 e)) (fun e d => m ((c.tc : Thread nD τ).loc main_arg3) (ix2 e d))
    (fun d => m ((c.tc : Thread nD τ).loc main_arg4) (ix1 d)) (fun i j k d => m ((c.tc : Thread nD τ).loc main_arg5) (ix4 i j k d))
    (fun d => m ((c.tc : Thread nD τ).loc main_arg6) (ix1 d)) (fun d j => m ((c.tc : Thread nD τ).loc main_arg7) (ix2 d j))
    (fun r d => m ((c.tc : Thread nD τ).loc main_arg8) (ix2 r d)) (fun d => m ((c.tc : Thread nD τ).loc main_arg9) (ix1 d))
    (fun d n => m ((c.tc : Thread nD τ).loc main_arg10) (ix2 d n)) (fun d => m ((c.tc : Thread nD τ).loc main_arg11) (ix1 d))
    (fun d => m ((c.tc : Thread nD τ).loc main_arg12) (ix1 d)) (fun d => m ((c.tc : Thread nD τ).loc main_arg13) (ix1 d))
    (fun d e => m ((c.tc : Thread nD τ).loc main_arg14) (ix2 d e)) (fun e => m ((c.tc : Thread nD τ).loc main_arg15) (ix1 e)) b

/-- Which block of its array every window takes at a grid point: the image's own for the input and the output, the only one for the
    rest. -/
theorem idx : ∀ t : Fin cfg0.N, win0_0.index t = ![t.val, 0, 0] ∧ win0_16.index t = ![t.val, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- What the region finds in `main_v0`: the recast argument. -/
theorem V_v0 : V m c main_v0 = shapeCast S4x1024x256 (m ((c.tc : Thread nD τ).loc main_arg0)) shapeCasts_S4x32x32x256_S4x1024x256 := by
  entry_read
  rfl

/-- What the region finds in `main_v2`: the recast argument. -/
theorem V_v2 : V m c main_v2 = shapeCast S1x256 (m ((c.tc : Thread nD τ).loc main_arg1)) shapeCasts_S256_S1x256 := by
  entry_read
  rfl

/-- What the region finds in `main_v3`: the recast argument. -/
theorem V_v3 : V m c main_v3 = shapeCast S1x256 (m ((c.tc : Thread nD τ).loc main_arg2)) shapeCasts_S256_S1x256 := by
  entry_read
  rfl

/-- What the region finds in `main_v4`: the recast argument. -/
theorem V_v4 : V m c main_v4 = shapeCast S1x512 (m ((c.tc : Thread nD τ).loc main_arg4)) shapeCasts_S512_S1x512 := by
  entry_read
  rfl

/-- What the region finds in `main_v1`: the recast argument. -/
theorem V_v1 : V m c main_v1 = shapeCast S9x512 (m ((c.tc : Thread nD τ).loc main_arg5)) shapeCasts_S3x3x1x512_S9x512 := by
  entry_read
  rfl

/-- What the region finds in `main_v5`: the recast argument. -/
theorem V_v5 : V m c main_v5 = shapeCast S1x512 (m ((c.tc : Thread nD τ).loc main_arg6)) shapeCasts_S512_S1x512 := by
  entry_read
  rfl

/-- What the region finds in `main_v6`: the recast argument. -/
theorem V_v6 : V m c main_v6 = shapeCast S1x512 (m ((c.tc : Thread nD τ).loc main_arg9)) shapeCasts_S512_S1x512 := by
  entry_read
  rfl

/-- What the region finds in `main_v7`: the transposed argument. -/
theorem V_v7 : V m c main_v7 = transpose S64x512 [1, 0] (m ((c.tc : Thread nD τ).loc main_arg10)) transposes_S512x64_S64x512_1_0 := by
  entry_read
  rfl

/-- What the region finds in `main_v8`: the recast argument. -/
theorem V_v8 : V m c main_v8 = shapeCast S1x512 (m ((c.tc : Thread nD τ).loc main_arg11)) shapeCasts_S512_S1x512 := by
  entry_read
  rfl

/-- What the region finds in `main_v9`: the recast argument. -/
theorem V_v9 : V m c main_v9 = shapeCast S1x512 (m ((c.tc : Thread nD τ).loc main_arg12)) shapeCasts_S512_S1x512 := by
  entry_read
  rfl

/-- What the region finds in `main_v10`: the recast argument. -/
theorem V_v10 : V m c main_v10 = shapeCast S1x512 (m ((c.tc : Thread nD τ).loc main_arg13)) shapeCasts_S512_S1x512 := by
  entry_read
  rfl

/-- What the region finds in `main_v11`: the recast argument. -/
theorem V_v11 : V m c main_v11 = shapeCast S1x256 (m ((c.tc : Thread nD τ).loc main_arg15)) shapeCasts_S256_S1x256 := by
  entry_read
  rfl

/-- The images recast to rows. -/
theorem cast0 (r : Vec Ideal S4x32x32x256 .f32) (b : Fin 4) (l : Fin 1024) (e : Fin 256) :
    shapeCast S4x1024x256 r shapeCasts_S4x32x32x256_S4x1024x256 (ix3 b l e) = r (ix4 b ⟨l.val / 32, by omega⟩ ⟨l.val % 32, by omega⟩ e) := by
  pointwise
  try blk_ext

/-- The convolution weights recast to rows. -/
theorem cast5 (r : Vec Ideal S3x3x1x512 .f32) (i j : Fin 3) (d : Fin 512) :
    shapeCast S9x512 r shapeCasts_S3x3x1x512_S9x512 (ix2 ⟨3 * i.val + j.val, by omega⟩ d) = r (ix4 i j 0 d) := by
  pointwise
  try blk_ext

/-- The block of input 0, entry by entry, is the argument. -/
theorem blk_0 (t : Fin cfg0.N) (l : Fin 1024) (e : Fin 256) : iblk m c 0 t (ix3 0 l e) = m ((c.tc : Thread nD τ).loc main_arg0) (ix4 ⟨t.val, lt_of_lt_of_eq t.isLt N_0⟩ ⟨l.val / 32, by omega⟩ ⟨l.val % 32, by omega⟩ e) := by
  have i0 : ((((cfg0.win 0).blk t).view.emb (ix3 0 l e)) : S4x1024x256.Idx) = ix3 ⟨t.val, lt_of_lt_of_eq t.isLt N_0⟩ l e := by
    blk_ext [idx t]
  unfold iblk
  exact (congrArg _ i0).trans ((congrFun (V_v0 m c) _).trans (cast0 _ _ l e))

/-- The block of input 1, entry by entry, is the argument. -/
theorem blk_1 (t : Fin cfg0.N) (d : Fin 256) : iblk m c 1 t (ix2 0 d) = m ((c.tc : Thread nD τ).loc main_arg1) (ix1 d) := by
  blk_simp [iblk, idx t]
  refine (congrFun (V_v2 m c) _).trans ?_
  pointwise
  blk_ext [idx t]

/-- The block of input 2, entry by entry, is the argument. -/
theorem blk_2 (t : Fin cfg0.N) (d : Fin 256) : iblk m c 2 t (ix2 0 d) = m ((c.tc : Thread nD τ).loc main_arg2) (ix1 d) := by
  blk_simp [iblk, idx t]
  refine (congrFun (V_v3 m c) _).trans ?_
  pointwise
  blk_ext [idx t]

/-- The block of input 3, entry by entry, is the argument. -/
theorem blk_3 (t : Fin cfg0.N) (i : Fin 256) (d : Fin 512) : iblk m c 3 t (ix2 i d) = m ((c.tc : Thread nD τ).loc main_arg3) (ix2 i d) := by
  blk_point [iblk, V, idx t]

/-- The block of input 4, entry by entry, is the argument. -/
theorem blk_4 (t : Fin cfg0.N) (d : Fin 512) : iblk m c 4 t (ix2 0 d) = m ((c.tc : Thread nD τ).loc main_arg4) (ix1 d) := by
  blk_simp [iblk, idx t]
  refine (congrFun (V_v4 m c) _).trans ?_
  pointwise
  blk_ext [idx t]

/-- The block of input 5, entry by entry, is the argument. -/
theorem blk_5 (t : Fin cfg0.N) (i j : Fin 3) (d : Fin 512) : iblk m c 5 t (ix2 ⟨3 * i.val + j.val, by omega⟩ d) = m ((c.tc : Thread nD τ).loc main_arg5) (ix4 i j 0 d) := by
  have i5 : ((((cfg0.win 5).blk t).view.emb (ix2 ⟨3 * i.val + j.val, by omega⟩ d)) : S9x512.Idx) = ix2 ⟨3 * i.val + j.val, by omega⟩ d := by
    blk_ext [idx t]
  unfold iblk
  exact (congrArg _ i5).trans ((congrFun (V_v1 m c) _).trans (cast5 _ i j d))

/-- The block of input 6, entry by entry, is the argument. -/
theorem blk_6 (t : Fin cfg0.N) (d : Fin 512) : iblk m c 6 t (ix2 0 d) = m ((c.tc : Thread nD τ).loc main_arg6) (ix1 d) := by
  blk_simp [iblk, idx t]
  refine (congrFun (V_v5 m c) _).trans ?_
  pointwise
  blk_ext [idx t]

/-- The block of input 7, entry by entry, is the argument. -/
theorem blk_7 (t : Fin cfg0.N) (i : Fin 512) (d : Fin 144) : iblk m c 7 t (ix2 i d) = m ((c.tc : Thread nD τ).loc main_arg7) (ix2 i d) := by
  blk_point [iblk, V, idx t]

/-- The block of input 8, entry by entry, is the argument. -/
theorem blk_8 (t : Fin cfg0.N) (i : Fin 16) (d : Fin 512) : iblk m c 8 t (ix2 i d) = m ((c.tc : Thread nD τ).loc main_arg8) (ix2 i d) := by
  blk_point [iblk, V, idx t]

/-- The block of input 9, entry by entry, is the argument. -/
theorem blk_9 (t : Fin cfg0.N) (d : Fin 512) : iblk m c 9 t (ix2 0 d) = m ((c.tc : Thread nD τ).loc main_arg9) (ix1 d) := by
  blk_simp [iblk, idx t]
  refine (congrFun (V_v6 m c) _).trans ?_
  pointwise
  blk_ext [idx t]

/-- The block of input 10, entry by entry, is the argument. -/
theorem blk_10 (t : Fin cfg0.N) (n : Fin 64) (d : Fin 512) : iblk m c 10 t (ix2 n d) = m ((c.tc : Thread nD τ).loc main_arg10) (ix2 d n) := by
  blk_simp [iblk, idx t]
  refine (congrFun (V_v7 m c) _).trans ?_
  pointwise
  blk_ext [idx t]

/-- The block of input 11, entry by entry, is the argument. -/
theorem blk_11 (t : Fin cfg0.N) (d : Fin 512) : iblk m c 11 t (ix2 0 d) = m ((c.tc : Thread nD τ).loc main_arg11) (ix1 d) := by
  blk_simp [iblk, idx t]
  refine (congrFun (V_v8 m c) _).trans ?_
  pointwise
  blk_ext [idx t]

/-- The block of input 12, entry by entry, is the argument. -/
theorem blk_12 (t : Fin cfg0.N) (d : Fin 512) : iblk m c 12 t (ix2 0 d) = m ((c.tc : Thread nD τ).loc main_arg12) (ix1 d) := by
  blk_simp [iblk, idx t]
  refine (congrFun (V_v9 m c) _).trans ?_
  pointwise
  blk_ext [idx t]

/-- The block of input 13, entry by entry, is the argument. -/
theorem blk_13 (t : Fin cfg0.N) (d : Fin 512) : iblk m c 13 t (ix2 0 d) = m ((c.tc : Thread nD τ).loc main_arg13) (ix1 d) := by
  blk_simp [iblk, idx t]
  refine (congrFun (V_v10 m c) _).trans ?_
  pointwise
  blk_ext [idx t]

/-- The block of input 14, entry by entry, is the argument. -/
theorem blk_14 (t : Fin cfg0.N) (i : Fin 512) (d : Fin 256) : iblk m c 14 t (ix2 i d) = m ((c.tc : Thread nD τ).loc main_arg14) (ix2 i d) := by
  blk_point [iblk, V, idx t]

/-- The block of input 15, entry by entry, is the argument. -/
theorem blk_15 (t : Fin cfg0.N) (d : Fin 256) : iblk m c 15 t (ix2 0 d) = m ((c.tc : Thread nD τ).loc main_arg15) (ix1 d) := by
  blk_simp [iblk, idx t]
  refine (congrFun (V_v11 m c) _).trans ?_
  pointwise
  blk_ext [idx t]

/-- The parameters of the blocks of one grid point are the arguments', with that point's image. -/
theorem params_eq (t : Fin cfg0.N) : blockParams (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t)
      (iblk m c 14 t) (iblk m c 15 t) = argParams m c ⟨t.val, lt_of_lt_of_eq t.isLt N_0⟩ := by
  unfold blockParams argParams Spec.ofArgs
  congr 1 <;> funext i
  · exact funext fun e => blk_0 m c t i e
  · exact blk_1 m c t i
  · exact blk_2 m c t i
  · exact funext fun d => blk_3 m c t i d
  · exact blk_4 m c t i
  · exact funext fun j => funext fun d => blk_5 m c t i j d
  · exact blk_6 m c t i
  · exact funext fun d => blk_7 m c t i d
  · exact funext fun d => blk_8 m c t i d
  · exact blk_9 m c t i
  · exact funext fun n => blk_10 m c t n i
  · exact blk_11 m c t i
  · exact blk_12 m c t i
  · exact blk_13 m c t i
  · exact funext fun e => blk_14 m c t i e
  · exact blk_15 m c t i

/-- The output array, one image's layer after another. -/
def result : S4x1024x256.Idx → EReal := fun i => (argParams m c (i 0)).out (i 1) (i 2)

/-- What a grid point writes. -/
theorem point (t : Fin cfg0.N) (y : S1x1024x256.Idx) : Block.out (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t)
      (iblk m c 14 t) (iblk m c 15 t) y = result m c (ix3 ⟨t.val, lt_of_lt_of_eq t.isLt N_0⟩ (y 1) (y 2)) := by
  obtain ⟨l, e, rfl⟩ : ∃ (l : Fin 1024) (e : Fin 256), y = ix3 0 l e := ⟨y 1, y 2, by blk_ext⟩
  exact (out_eq _ _ _ _ _ _ _ _ _ _ _ _ _ _ _ _ l e).trans (congrArg (fun p => Spec.Params.out p l e) (params_eq m c t))

/-- The output array when the grid is done. -/
theorem final : (dats m 0 c).arrAt 16 (cfgs 0).N = result m c := by
  refine (dats m 0 c).arrAt_eq_of_covers 16 _ (by decide +kernel) fun t _ y => ?_
  blk_simp
  rw [after0_16]
  refine (point m c t y).trans ?_
  refine congrArg (result m c) ?_
  blk_ext [idx t]

/-- The output array recast to images of pixels. -/
theorem recast (b : Fin 4) (y x : Fin 32) (e : Fin 256) :
    shapeCast S4x32x32x256 (result m c : Vec Ideal S4x1024x256 .f32) shapeCasts_S4x1024x256_S4x32x32x256 (ix4 b y x e)
      = (argParams m c b).out ⟨y.val * 32 + x.val, by omega⟩ e := by
  have h : ∀ (r : Vec Ideal S4x1024x256 .f32), shapeCast S4x32x32x256 r shapeCasts_S4x1024x256_S4x32x32x256 (ix4 b y x e)
      = r (ix3 b ⟨y.val * 32 + x.val, by omega⟩ e) := fun r => by
    pointwise
    blk_ext
  exact h _

end Cert.KernelIdeal.Value

end
-- ==== Proof.KRun.lean ====
/- What the kernel leaves in its result: the layer of Spec.lean on its arguments. -/
module

public import proofs.«01_k».proof.Proof.KFinal

@[expose] public section

set_option maxRecDepth 16384

noncomputable section

open Idealize.ShloMosaic Idealize.ShloMosaic.TcCoe Idealize.ShloMosaic.Tactic Idealize.SL.Sem

namespace Cert.KernelIdeal.Value

open Cert.KernelIdeal Cert.KernelIdeal.Gen Cert.KernelIdeal.Hand

variable (m : (ℓ : Loc nD τ sig) → Buf (Elt Ideal) ℓ) (ρ : Dev nD → PrngReg) (c : Dev nD)

/-- The layer on the kernel's arguments, at a pixel's channel. -/
def layer : S4x32x32x256.Idx → EReal := fun i =>
  (argParams m c (i 0)).out ⟨(i 1).val * 32 + (i 2).val, by have h1 : (i 1).val < 32 := (i 1).isLt; have h2 : (i 2).val < 32 := (i 2).isLt; omega⟩ (i 3)

/-- The recast output array is the layer. -/
theorem recast_eq : shapeCast S4x32x32x256 (result m c : Vec Ideal S4x1024x256 .f32) shapeCasts_S4x1024x256_S4x32x32x256 = layer m c := by
  funext i
  obtain ⟨b, y, x, e, rfl⟩ : ∃ (b : Fin 4) (y x : Fin 32) (e : Fin 256), i = ix4 b y x e := ⟨i 0, i 1, i 2, i 3, by blk_ext⟩
  exact recast m c b y x e

set_option maxHeartbeats 1600000 in
/-- The kernel's result is the layer on its arguments. -/
theorem run_layer : θ_run defs (onTc (τ := τ) (main (F := Ideal))) ⟨m, fun _ => 0, ρ⟩ fun r => ∀ c : Dev nD,
    r.2.mem ((c.tc : Thread nD τ).loc main_v13) = layer m c := by
  run_from Cert.KernelIdeal.Hand.run m ρ
  have h : ∀ V : (b : DevRef τ sig) → (b.ty).Contents (Elt Ideal), StableHlo.after [hostOps1].flatten V (Proc.tc.devRef main_v13)
      = shapeCast S4x32x32x256 (V (Proc.tc.devRef main_v12) : Vec Ideal S4x1024x256 .f32) shapeCasts_S4x1024x256_S4x32x32x256 := fun V => by
    simp only [hostOps1, List.flatten_cons, List.flatten_nil, List.append_nil]
    after_results
    rfl
  unfold Pipeline.afterTail₀
  refine (h _).trans ?_
  have e : Pipeline.withArrays (cfgs 0).spec c (V0 m c) (fun w => (dats m 0 c).arrAt w (cfgs 0).N) (Proc.tc.devRef main_v12) = result m c :=
    (Pipeline.withArrays_arr spec0 (by decide) c (V0 m c) (fun w => (dats m 0 c).arrAt w (cfgs 0).N) 16).trans (final m c)
  rw [e]
  exact recast_eq m c

end Cert.KernelIdeal.Value

end
-- ==== Proof.RefVal.lean ====
/- What each piece of the reference computes before its loop, over the extended reals, in the terms of Spec.lean. -/
module

public import proofs.«01_k».proof.Proof.Gen.ReferenceIdeal.Step
public import proofs.«01_k».proof.Proof.Spec
public import Idealize.ShloMosaic.Lib.Pointwise

@[expose] public section

set_option maxRecDepth 16384

noncomputable section

open Idealize.ShloMosaic Idealize.ShloMosaic.TcCoe Idealize.ShloMosaic.Tactic

namespace Cert.ReferenceIdeal.Value

open Cert.ReferenceIdeal Cert.ReferenceIdeal.Gen Cert.ReferenceIdeal.Step

variable (a0 : (⟨S4x32x32x256, .f32⟩ : BufTy).Contents (Elt Ideal)) (a1 a2 : (⟨S256, .f32⟩ : BufTy).Contents (Elt Ideal))
  (a3 : (⟨S256x512, .f32⟩ : BufTy).Contents (Elt Ideal)) (a4 : (⟨S512, .f32⟩ : BufTy).Contents (Elt Ideal))
  (a5 : (⟨S3x3x1x512, .f32⟩ : BufTy).Contents (Elt Ideal)) (a6 : (⟨S512, .f32⟩ : BufTy).Contents (Elt Ideal))
  (a7 : (⟨S512x144, .f32⟩ : BufTy).Contents (Elt Ideal)) (a8 : (⟨S16x512, .f32⟩ : BufTy).Contents (Elt Ideal))
  (a9 : (⟨S512, .f32⟩ : BufTy).Contents (Elt Ideal)) (a10 : (⟨S512x64, .f32⟩ : BufTy).Contents (Elt Ideal))

/-- The affine image of the normed input at a pixel. -/
theorem v27 (b : Fin 4) (y x : Fin 32) (d : Fin 512) :
    A_main_v27 a0 a1 a2 a3 a4 a5 a6 a7 a8 a9 a10 (ix4 b y x d)
      = ∑ e, Spec.norm (Ideal.ofBits FTy.f32 1132462080#32) (fun e => a0 (ix4 b y x e)) (fun e => a1 (ix1 e)) (fun e => a2 (ix1 e)) e
          * a3 (ix2 e d) + a4 (ix1 d) := by
  pointwise [A_main_v0, A_main_v1, A_main_v3, A_main_v4, A_main_v5, A_main_v6, A_main_v7, A_main_v8, A_main_v10, A_main_v11, A_main_v12, A_main_v14,
    A_main_v15, A_main_v16, A_main_v17, A_main_v18, A_main_v19, A_main_v20, A_main_v21, A_main_v22, A_main_v23, A_main_v24, A_main_v25, A_main_v26, A_main_v27,
    K_main_cst, K_main_cst_0, K_main_cst_1, K_main_cst_2, K_main_cst_3, K_main_v2, K_main_v9, K_main_v13]
  rfl

/-- The padded image. -/
theorem v28 (b : Fin 4) (p q : Fin 34) (d : Fin 512) :
    A_main_v28 a0 a1 a2 a3 a4 a5 a6 a7 a8 a9 a10 (ix4 b p q d)
      = if h : (1 ≤ p.val ∧ p.val < 33) ∧ 1 ≤ q.val ∧ q.val < 33 then
          A_main_v27 a0 a1 a2 a3 a4 a5 a6 a7 a8 a9 a10 (ix4 b ⟨p.val - 1, by omega⟩ ⟨q.val - 1, by omega⟩ d) else 0 := by
  pointwise [A_main_v28, K_main_call0_v0, K_main_c]
  by_cases h : (1 ≤ p.val ∧ p.val < 33) ∧ 1 ≤ q.val ∧ q.val < 33
  · rw [dif_pos h, dif_pos ⟨⟨h.1.1, by omega⟩, h.2.1, by omega⟩]
  · rw [dif_neg h, dif_neg fun g => h ⟨⟨g.1.1, by omega⟩, g.2.1, by omega⟩]
    show (((0#32 : BitVec 32).toInt : ℝ) : EReal) = 0
    simp

/-- The pixels of image `b`, in row order, of an array of images. -/
def rows (X : (⟨S4x32x32x512, .f32⟩ : BufTy).Contents (Elt Ideal)) (b : Fin 4) (l : Fin 1024) (d : Fin 512) : EReal :=
  X (ix4 b ⟨l.val / 32, by omega⟩ ⟨l.val % 32, by omega⟩ d)

/-- A padded pixel is a tap. -/
theorem tap_eq (b : Fin 4) (i j : ℕ) (hi : i < 3) (hj : j < 3) (l : Fin 1024) (p q : Fin 34) (hp : p.val = i + l.val / 32) (hq : q.val = j + l.val % 32)
    (d : Fin 512) :
    A_main_v28 a0 a1 a2 a3 a4 a5 a6 a7 a8 a9 a10 (ix4 b p q d)
      = Spec.tap (rows (A_main_v27 a0 a1 a2 a3 a4 a5 a6 a7 a8 a9 a10) b) i j l d := by
  rw [v28]
  unfold Spec.tap Spec.shift rows
  by_cases hq' : 1 ≤ q.val ∧ q.val < 33
  · rw [if_pos (by omega)]
    by_cases hp' : 1 ≤ p.val ∧ p.val < 33
    · rw [dif_pos ⟨hp', hq'⟩, dif_pos (by omega)]
      exact congrArg₂ (fun y x => A_main_v27 a0 a1 a2 a3 a4 a5 a6 a7 a8 a9 a10 (ix4 b y x d))
        (Fin.ext (by show p.val - 1 = (l.val + (32 * i + j) - 33) / 32; omega))
        (Fin.ext (by show q.val - 1 = (l.val + (32 * i + j) - 33) % 32; omega))
    · rw [dif_neg fun g => hp' g.1, dif_neg (by omega)]
  · rw [dif_neg fun g => hq' g.2, if_neg (by omega)]

/-- The convolution with its bias at a pixel. -/
theorem v95 (b : Fin 4) (l : Fin 1024) (d : Fin 512) :
    rows (A_main_v95 a0 a1 a2 a3 a4 a5 a6 a7 a8 a9 a10) b l d
      = Spec.conv (rows (A_main_v27 a0 a1 a2 a3 a4 a5 a6 a7 a8 a9 a10) b) (fun i j d => a5 (ix4 i j 0 d)) (fun d => a6 (ix1 d)) l d := by
  show A_main_v95 a0 a1 a2 a3 a4 a5 a6 a7 a8 a9 a10 (ix4 b ⟨l.val / 32, _⟩ ⟨l.val % 32, _⟩ d) = _
  pointwise [A_main_v30, A_main_v31, A_main_v32, A_main_v33, A_main_v34, A_main_v35, A_main_v36, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v68, A_main_v69, A_main_v70, A_main_v71, A_main_v72, A_main_v73, A_main_v74, A_main_v75, A_main_v76, A_main_v77, A_main_v78, A_main_v79, A_main_v80, A_main_v81, A_main_v82, A_main_v83, A_main_v84, A_main_v85, A_main_v86, A_main_v87, A_main_v88, A_main_v89, A_main_v90, A_main_v91, A_main_v92, A_main_v93, A_main_v94, A_main_v95, K_main_v29, K_main_cst_4]
  rw [
    tap_eq a0 a1 a2 a3 a4 a5 a6 a7 a8 a9 a10 b 0 0 (by omega) (by omega) l ⟨l.val / 32, by omega⟩ ⟨l.val % 32, by omega⟩ (Nat.zero_add _).symm (Nat.zero_add _).symm,
    tap_eq a0 a1 a2 a3 a4 a5 a6 a7 a8 a9 a10 b 0 1 (by omega) (by omega) l ⟨l.val / 32, by omega⟩ ⟨1 + l.val % 32, by omega⟩ (Nat.zero_add _).symm rfl,
    tap_eq a0 a1 a2 a3 a4 a5 a6 a7 a8 a9 a10 b 0 2 (by omega) (by omega) l ⟨l.val / 32, by omega⟩ ⟨2 + l.val % 32, by omega⟩ (Nat.zero_add _).symm rfl,
    tap_eq a0 a1 a2 a3 a4 a5 a6 a7 a8 a9 a10 b 1 0 (by omega) (by omega) l ⟨1 + l.val / 32, by omega⟩ ⟨l.val % 32, by omega⟩ rfl (Nat.zero_add _).symm,
    tap_eq a0 a1 a2 a3 a4 a5 a6 a7 a8 a9 a10 b 1 1 (by omega) (by omega) l ⟨1 + l.val / 32, by omega⟩ ⟨1 + l.val % 32, by omega⟩ rfl rfl,
    tap_eq a0 a1 a2 a3 a4 a5 a6 a7 a8 a9 a10 b 1 2 (by omega) (by omega) l ⟨1 + l.val / 32, by omega⟩ ⟨2 + l.val % 32, by omega⟩ rfl rfl,
    tap_eq a0 a1 a2 a3 a4 a5 a6 a7 a8 a9 a10 b 2 0 (by omega) (by omega) l ⟨2 + l.val / 32, by omega⟩ ⟨l.val % 32, by omega⟩ rfl (Nat.zero_add _).symm,
    tap_eq a0 a1 a2 a3 a4 a5 a6 a7 a8 a9 a10 b 2 1 (by omega) (by omega) l ⟨2 + l.val / 32, by omega⟩ ⟨1 + l.val % 32, by omega⟩ rfl rfl,
    tap_eq a0 a1 a2 a3 a4 a5 a6 a7 a8 a9 a10 b 2 2 (by omega) (by omega) l ⟨2 + l.val / 32, by omega⟩ ⟨2 + l.val % 32, by omega⟩ rfl rfl]
  unfold Spec.conv
  simp only [Fin.sum_univ_three, add_assoc]
  rfl

/-- The activation at a row. -/
theorem v109 (b : Fin 4) (l : Fin 1024) (d : Fin 512) :
    A_main_v109 a0 a1 a2 a3 a4 a5 a6 a7 a8 a9 a10 (ix3 b l d) = Spec.gelu (rows (A_main_v95 a0 a1 a2 a3 a4 a5 a6 a7 a8 a9 a10) b l d) := by
  pointwise [A_main_v109, A_main_v108, A_main_v107, A_main_v105, A_main_v103, A_main_v102, A_main_v100, A_main_v99, A_main_v97, A_main_v96,
    K_main_cst_5, K_main_v98, K_main_cst_6, K_main_v101, K_main_cst_7, K_main_v104, K_main_cst_8, K_main_v106]
  rw [mul_assoc (A_main_v95 a0 a1 a2 a3 a4 a5 a6 a7 a8 a9 a10 (ix4 b ⟨l.val / 32, _⟩ ⟨l.val % 32, _⟩ d)) (A_main_v95 a0 a1 a2 a3 a4 a5 a6 a7 a8 a9 a10 (ix4 b ⟨l.val / 32, _⟩ ⟨l.val % 32, _⟩ d))]
  rfl

/-- The projections of a row. -/
theorem v110 (b : Fin 4) (l : Fin 1024) (j : Fin 144) :
    A_main_v110 a0 a1 a2 a3 a4 a5 a6 a7 a8 a9 a10 (ix3 b l j) = Spec.proj (fun l d => A_main_v109 a0 a1 a2 a3 a4 a5 a6 a7 a8 a9 a10 (ix3 b l d)) (fun d j => a7 (ix2 d j)) l j := by
  pointwise [A_main_v110]
  rfl

/-- The argument of the step size's activation. -/
theorem v117 (b : Fin 4) (l : Fin 1024) (d : Fin 512) :
    A_main_v117 a0 a1 a2 a3 a4 a5 a6 a7 a8 a9 a10 (ix3 b l d) = ∑ r : Fin 16, A_main_v110 a0 a1 a2 a3 a4 a5 a6 a7 a8 a9 a10 (ix3 b l ⟨r.val, by omega⟩) * a8 (ix2 r d) + a9 (ix1 d) := by
  pointwise [A_main_v117, A_main_v116, A_main_v115, A_main_v114, A_main_v111]

/-- The step size of a row. -/
theorem v123 (b : Fin 4) (l : Fin 1024) (d : Fin 512) :
    A_main_v123 a0 a1 a2 a3 a4 a5 a6 a7 a8 a9 a10 (ix3 l b d) = Spec.dt (fun l j => A_main_v110 a0 a1 a2 a3 a4 a5 a6 a7 a8 a9 a10 (ix3 b l j)) (fun r d => a8 (ix2 r d)) (fun d => a9 (ix1 d)) l d := by
  unfold Spec.dt
  rw [← v117]
  pointwise [A_main_v123, A_main_v118, A_main_call1_v11, A_main_call1_v10, A_main_call1_v9, A_main_call1_v8, A_main_call1_v7, A_main_call1_v6,
    A_main_call1_v4, A_main_call1_v3, A_main_call1_v1, K_main_call1_v0, K_main_call1_v2, K_main_call1_v5, K_main_call1_cst]
  rw [if_neg (not_not.2 rfl)]
  rfl

/-- The loop's input rows. -/
theorem v122 (b : Fin 4) (l : Fin 1024) (d : Fin 512) : A_main_v122 a0 a1 a2 a3 a4 a5 a6 a7 a8 a9 a10 (ix3 l b d) = A_main_v109 a0 a1 a2 a3 a4 a5 a6 a7 a8 a9 a10 (ix3 b l d) := by
  pointwise [A_main_v122]

/-- The loop's `B` rows. -/
theorem v124 (b : Fin 4) (l : Fin 1024) (n : Fin 64) :
    A_main_v124 a0 a1 a2 a3 a4 a5 a6 a7 a8 a9 a10 (ix3 l b n) = A_main_v110 a0 a1 a2 a3 a4 a5 a6 a7 a8 a9 a10 (ix3 b l ⟨16 + n.val, by omega⟩) := by
  pointwise [A_main_v124, A_main_v112]

/-- The loop's `C` rows. -/
theorem v125 (b : Fin 4) (l : Fin 1024) (n : Fin 64) :
    A_main_v125 a0 a1 a2 a3 a4 a5 a6 a7 a8 a9 a10 (ix3 l b n) = A_main_v110 a0 a1 a2 a3 a4 a5 a6 a7 a8 a9 a10 (ix3 b l ⟨80 + n.val, by omega⟩) := by
  pointwise [A_main_v125, A_main_v113]

/-- The decay rates. -/
theorem v120 (d : Fin 512) (n : Fin 64) : A_main_v120 a0 a1 a2 a3 a4 a5 a6 a7 a8 a9 a10 (ix2 d n) = -Ideal.exp (a10 (ix2 d n)) := by
  pointwise [A_main_v120, A_main_v119]

variable (a11 a12 a13 : (⟨S512, .f32⟩ : BufTy).Contents (Elt Ideal)) (a14 : (⟨S512x256, .f32⟩ : BufTy).Contents (Elt Ideal))
  (a15 : (⟨S256, .f32⟩ : BufTy).Contents (Elt Ideal))

/-- The layer's parameters and image `b`, read from the arguments. -/
def params (b : Fin 4) : Spec.Params :=
  Spec.ofArgs (fun b y x e => a0 (ix4 b y x e)) (fun e => a1 (ix1 e)) (fun e => a2 (ix1 e)) (fun e d => a3 (ix2 e d)) (fun d => a4 (ix1 d))
    (fun i j k d => a5 (ix4 i j k d)) (fun d => a6 (ix1 d)) (fun d j => a7 (ix2 d j)) (fun r d => a8 (ix2 r d)) (fun d => a9 (ix1 d))
    (fun d n => a10 (ix2 d n)) (fun d => a11 (ix1 d)) (fun d => a12 (ix1 d)) (fun d => a13 (ix1 d)) (fun d e => a14 (ix2 d e)) (fun e => a15 (ix1 e)) b

/-- The loop's input rows are the activated convolution. -/
theorem u_eq (b : Fin 4) (l : Fin 1024) (d : Fin 512) : A_main_v109 a0 a1 a2 a3 a4 a5 a6 a7 a8 a9 a10 (ix3 b l d) = (params a0 a1 a2 a3 a4 a5 a6 a7 a8 a9 a10 a11 a12 a13 a14 a15 b).u l d := by
  rw [v109, v95]
  have h : rows (A_main_v27 a0 a1 a2 a3 a4 a5 a6 a7 a8 a9 a10) b = (params a0 a1 a2 a3 a4 a5 a6 a7 a8 a9 a10 a11 a12 a13 a14 a15 b).x := funext fun l => funext fun d => v27 a0 a1 a2 a3 a4 a5 a6 a7 a8 a9 a10 b _ _ d
  rw [h]
  rfl

/-- The projections. -/
theorem pr_eq (b : Fin 4) (l : Fin 1024) (j : Fin 144) : A_main_v110 a0 a1 a2 a3 a4 a5 a6 a7 a8 a9 a10 (ix3 b l j) = (params a0 a1 a2 a3 a4 a5 a6 a7 a8 a9 a10 a11 a12 a13 a14 a15 b).pr l j := by
  rw [v110]
  have h : (fun l d => A_main_v109 a0 a1 a2 a3 a4 a5 a6 a7 a8 a9 a10 (ix3 b l d)) = (params a0 a1 a2 a3 a4 a5 a6 a7 a8 a9 a10 a11 a12 a13 a14 a15 b).u :=
    funext fun l => funext fun d => u_eq a0 a1 a2 a3 a4 a5 a6 a7 a8 a9 a10 a11 a12 a13 a14 a15 b l d
  rw [h]
  rfl

/-- The step sizes. -/
theorem dt_eq (b : Fin 4) (l : Fin 1024) (d : Fin 512) : A_main_v123 a0 a1 a2 a3 a4 a5 a6 a7 a8 a9 a10 (ix3 l b d) = (params a0 a1 a2 a3 a4 a5 a6 a7 a8 a9 a10 a11 a12 a13 a14 a15 b).dt l d := by
  rw [v123]
  have h : (fun l j => A_main_v110 a0 a1 a2 a3 a4 a5 a6 a7 a8 a9 a10 (ix3 b l j)) = (params a0 a1 a2 a3 a4 a5 a6 a7 a8 a9 a10 a11 a12 a13 a14 a15 b).pr :=
    funext fun l => funext fun j => pr_eq a0 a1 a2 a3 a4 a5 a6 a7 a8 a9 a10 a11 a12 a13 a14 a15 b l j
  rw [h]
  rfl

end Cert.ReferenceIdeal.Value

end
-- ==== Proof.RefLoop.lean ====
/- The reference's loop computes the recurrence of Spec.lean, and its result is the layer of Spec.lean. -/
module

public import proofs.«01_k».proof.Proof.RefVal

@[expose] public section

set_option maxRecDepth 16384

noncomputable section

open Idealize.ShloMosaic Idealize.ShloMosaic.TcCoe Idealize.ShloMosaic.Tactic

namespace Cert.ReferenceIdeal.Value

open Cert.ReferenceIdeal Cert.ReferenceIdeal.Gen Cert.ReferenceIdeal.Step

variable (s : State Ideal) (j : ℕ)

/-- A trip's number, read as a signed word, is itself. -/
theorem toInt_trip (hj : j < 1024) : (BitVec.ofNat 32 j).toInt = (j : ℤ) := by
  have h : (BitVec.ofNat 32 j).toNat = j := by rw [BitVec.toNat_ofNat]; omega
  rw [BitVec.toInt_eq_toNat_of_lt (by omega), h]

/-- An array is read alike at equal coordinates. -/
theorem read3 {n0 n1 n2 : ℕ} {α : Type} (f : Fin n0 → Fin n1 → Fin n2 → α) {p p' : Fin n0} {q q' : Fin n1} {r r' : Fin n2}
    (hp : p.val = p'.val) (hq : q.val = q'.val) (hr : r.val = r'.val) : f p q r = f p' q' r' := by
  rw [Fin.ext hp, Fin.ext hq, Fin.ext hr]

/-- The start of trip `j`'s row. -/
def start : Fin 3 → ℤ := fun k => (((![(constantI S_ 32 (BitVec.ofNat 32 j) : (⟨S_, .i32⟩ : BufTy).Contents (Elt Ideal)), constantI S_ 32 0#32, constantI S_ 32 0#32] :
  Fin 3 → (⟨S_, .i32⟩ : BufTy).Contents (Elt Ideal))) k (Shape.Idx.first h_S_)).toInt

theorem start_0 (hj : j < 1024) : start j 0 = (j : ℤ) := toInt_trip j hj
theorem start_1 : start j 1 = ((0 : ℕ) : ℤ) := rfl
theorem start_2 : start j 2 = ((0 : ℕ) : ℤ) := rfl

/-- The start of a 512-wide row is in range, so it is the one asked for. -/
theorem wide_0 (hj : j < 1024) (h) : Host.clampedStart S1024x4x512 S1x4x512 h (start j) 0 = j :=
  Host.clampedStart_of_le h (start j) 0 j (start_0 j hj) (by show j + 1 ≤ 1024; omega)
theorem wide_1 (h) : Host.clampedStart S1024x4x512 S1x4x512 h (start j) 1 = 0 :=
  Host.clampedStart_of_le h (start j) 1 0 (start_1 j) (by show 0 + 4 ≤ 4; omega)
theorem wide_2 (h) : Host.clampedStart S1024x4x512 S1x4x512 h (start j) 2 = 0 :=
  Host.clampedStart_of_le h (start j) 2 0 (start_2 j) (by show 0 + 512 ≤ 512; omega)

/-- So is the start of a 64-wide row. -/
theorem slim_0 (hj : j < 1024) (h) : Host.clampedStart S1024x4x64 S1x4x64 h (start j) 0 = j :=
  Host.clampedStart_of_le h (start j) 0 j (start_0 j hj) (by show j + 1 ≤ 1024; omega)
theorem slim_1 (h) : Host.clampedStart S1024x4x64 S1x4x64 h (start j) 1 = 0 :=
  Host.clampedStart_of_le h (start j) 1 0 (start_1 j) (by show 0 + 4 ≤ 4; omega)
theorem slim_2 (h) : Host.clampedStart S1024x4x64 S1x4x64 h (start j) 2 = 0 :=
  Host.clampedStart_of_le h (start j) 2 0 (start_2 j) (by show 0 + 64 ≤ 64; omega)

/-- Row `j` of a 512-wide array. -/
theorem wide_read (x : (⟨S1024x4x512, .f32⟩ : BufTy).Contents (Elt Ideal)) (hj : j < 1024) (h) (b : Fin 4) (d : Fin 512) :
    Host.dynamicSlice S1x4x512 x (start j) h (ix3 0 b d) = x (ix3 ⟨j, hj⟩ b d) := by
  pointwise []
  exact read3 (fun p q r => x (ix3 p q r)) (wide_0 j hj h.1) (by show _ + b.val = b.val; rw [wide_1, Nat.zero_add])
    (by show _ + d.val = d.val; rw [wide_2, Nat.zero_add])

/-- Row `j` of a 64-wide array. -/
theorem slim_read (x : (⟨S1024x4x64, .f32⟩ : BufTy).Contents (Elt Ideal)) (hj : j < 1024) (h) (b : Fin 4) (n : Fin 64) :
    Host.dynamicSlice S1x4x64 x (start j) h (ix3 0 b n) = x (ix3 ⟨j, hj⟩ b n) := by
  pointwise []
  exact read3 (fun p q r => x (ix3 p q r)) (slim_0 j hj h.1) (by show _ + b.val = b.val; rw [slim_1, Nat.zero_add])
    (by show _ + n.val = n.val; rw [slim_2, Nat.zero_add])

/-- Row `l` after the write of row `j`. -/
theorem wide_write (x : (⟨S1024x4x512, .f32⟩ : BufTy).Contents (Elt Ideal)) (u : (⟨S1x4x512, .f32⟩ : BufTy).Contents (Elt Ideal)) (hj : j < 1024) (h)
    (l : Fin 1024) (b : Fin 4) (d : Fin 512) :
    Host.dynamicUpdateSlice x u (start j) h (ix3 l b d) = if l.val = j then u (ix3 0 b d) else x (ix3 l b d) := by
  pointwise []
  by_cases e : l.val = j
  · rw [if_pos e, dif_pos ⟨⟨by rw [wide_0 j hj]; omega, by rw [wide_0 j hj]; omega⟩, by rw [wide_1]; omega, by rw [wide_2]; omega⟩]
    exact read3 (fun p q r => u (ix3 p q r)) (by show l.val - _ = 0; rw [wide_0 j hj]; omega) (by show b.val - _ = b.val; rw [wide_1, Nat.sub_zero])
      (by show d.val - _ = d.val; rw [wide_2, Nat.sub_zero])
  · rw [if_neg e, dif_neg]
    intro g
    have g1 := g.1
    rw [wide_0 j hj] at g1
    omega

/-- The state a trip leaves. -/
theorem b29_eq (hj : j < 1024) (b : Fin 4) (d : Fin 512) (n : Fin 64) :
    Step.b29 j s (ix3 b d n)
      = Ideal.exp (s.main_v127_1 (ix3 ⟨j, hj⟩ b d) * s.main_v127_4 (ix2 d n)) * s.main_v127_7 (ix3 b d n)
        + s.main_v127_1 (ix3 ⟨j, hj⟩ b d) * s.main_v127_0 (ix3 ⟨j, hj⟩ b d) * s.main_v127_2 (ix3 ⟨j, hj⟩ b n) := by
  pointwise [Step.b29, Step.b28, Step.b27, Step.b26, Step.b25, Step.b24, Step.b23, Step.b22, Step.b21, Step.b20, Step.b19, Step.b18, Step.b17,
    Step.b16, Step.b11, Step.b7, Step.b3]
  rw [show Step.b6 j s (ix3 0 b d) = _ from wide_read j s.main_v127_1 hj _ b d, show Step.b2 j s (ix3 0 b d) = _ from wide_read j s.main_v127_0 hj _ b d,
    show Step.b10 j s (ix3 0 b n) = _ from slim_read j s.main_v127_2 hj _ b n]

/-- The outputs a trip leaves. -/
theorem b38_eq (hj : j < 1024) (l : Fin 1024) (b : Fin 4) (d : Fin 512) :
    Step.b38 j s (ix3 l b d)
      = if l.val = j then
          ∑ n, Step.b29 j s (ix3 b d n) * s.main_v127_3 (ix3 ⟨j, hj⟩ b n) + s.main_v127_0 (ix3 ⟨j, hj⟩ b d) * s.main_v127_5 (ix1 d)
        else s.main_v127_8 (ix3 l b d) := by
  refine (wide_write j s.main_v127_8 (Step.b35 j s) hj _ l b d).trans ?_
  refine congrArg (fun z => if l.val = j then z else s.main_v127_8 (ix3 l b d)) ?_
  pointwise [Step.b35, Step.b34, Step.b33, Step.b32, Step.b31, Step.b30, Step.b15, Step.b3]
  rw [show Step.b2 j s (ix3 0 b d) = _ from wide_read j s.main_v127_0 hj _ b d]
  refine congrArg (· + _) (Finset.sum_congr rfl fun n _ => ?_)
  rw [show Step.b14 j s (ix3 0 b n) = _ from slim_read j s.main_v127_3 hj _ b n]

/-- The loop's states from a first one. -/
def iter (s0 : State Ideal) : ℕ → State Ideal
  | 0 => s0
  | n + 1 => Step.step n (iter s0 n)

/-- No trip changes what it reads rows of. -/
theorem iter_keeps (s0 : State Ideal) (n : ℕ) :
    (iter s0 n).main_v127_0 = s0.main_v127_0 ∧ (iter s0 n).main_v127_1 = s0.main_v127_1 ∧ (iter s0 n).main_v127_2 = s0.main_v127_2
      ∧ (iter s0 n).main_v127_3 = s0.main_v127_3 ∧ (iter s0 n).main_v127_4 = s0.main_v127_4 ∧ (iter s0 n).main_v127_5 = s0.main_v127_5 := by
  induction n with
  | zero => exact ⟨rfl, rfl, rfl, rfl, rfl, rfl⟩
  | succ n ih => exact ih

section

variable (P : Spec.Params) (s0 : State Ideal) (b : Fin 4)

/-- A first state holding what the layer of Spec.lean computes for image `b`. -/
structure Starts : Prop where
  x : ∀ l d, s0.main_v127_0 (ix3 l b d) = P.u l d
  dt : ∀ l d, s0.main_v127_1 (ix3 l b d) = P.dt l d
  bm : ∀ l n, s0.main_v127_2 (ix3 l b n) = P.bm l n
  cm : ∀ l n, s0.main_v127_3 (ix3 l b n) = P.cm l n
  a : ∀ d n, s0.main_v127_4 (ix2 d n) = -Ideal.exp (P.alog d n)
  dsk : ∀ d, s0.main_v127_5 (ix1 d) = P.dsk d
  h : ∀ d n, s0.main_v127_7 (ix3 b d n) = 0

variable {P s0 b} (H : Starts P s0 b)

include H

/-- The state after a trip. -/
theorem step_h (n : ℕ) (hn : n < 1024) (hh : ∀ d k, (iter s0 n).main_v127_7 (ix3 b d k) = P.h n k d) (d : Fin 512) (k : Fin 64) :
    Step.b29 n (iter s0 n) (ix3 b d k) = P.h (n + 1) k d := by
  have K := iter_keeps s0 n
  rw [b29_eq (iter s0 n) n hn b d k, K.1, K.2.1, K.2.2.1, K.2.2.2.2.1, hh, H.x, H.dt, H.bm, H.a]
  show _ = Spec.state P.dt P.u P.bm P.alog (n + 1) k d
  rw [Spec.state, dif_pos hn]
  rfl

/-- The state after `n` trips. -/
theorem iter_h (n : ℕ) (hn : n ≤ 1024) (d : Fin 512) (k : Fin 64) : (iter s0 n).main_v127_7 (ix3 b d k) = P.h n k d := by
  induction n generalizing d k with
  | zero => exact H.h d k
  | succ n ih => exact step_h H n (by omega) (fun d k => ih (by omega) d k) d k

/-- The outputs after `n` trips. -/
theorem iter_ys (n : ℕ) (hn : n ≤ 1024) (l : Fin 1024) (hl : l.val < n) (d : Fin 512) : (iter s0 n).main_v127_8 (ix3 l b d) = P.ys l d := by
  induction n with
  | zero => omega
  | succ n ih =>
    refine (b38_eq (iter s0 n) n (by omega) l b d).trans ?_
    by_cases e : l.val = n
    · subst e
      have K := iter_keeps s0 l.val
      rw [if_pos rfl, K.1, K.2.2.2.1, K.2.2.2.2.2, H.x, H.dsk]
      refine congrArg₂ (· + ·) (Finset.sum_congr rfl fun k _ => ?_) rfl
      rw [H.cm, step_h H l.val l.isLt (fun d k => iter_h H l.val (by omega) d k)]
      rfl
    · rw [if_neg e]
      exact ih (by omega) (by omega)

end

variable (a0 : (⟨S4x32x32x256, .f32⟩ : BufTy).Contents (Elt Ideal)) (a1 a2 : (⟨S256, .f32⟩ : BufTy).Contents (Elt Ideal))
  (a3 : (⟨S256x512, .f32⟩ : BufTy).Contents (Elt Ideal)) (a4 : (⟨S512, .f32⟩ : BufTy).Contents (Elt Ideal))
  (a5 : (⟨S3x3x1x512, .f32⟩ : BufTy).Contents (Elt Ideal)) (a6 : (⟨S512, .f32⟩ : BufTy).Contents (Elt Ideal))
  (a7 : (⟨S512x144, .f32⟩ : BufTy).Contents (Elt Ideal)) (a8 : (⟨S16x512, .f32⟩ : BufTy).Contents (Elt Ideal))
  (a9 : (⟨S512, .f32⟩ : BufTy).Contents (Elt Ideal)) (a10 : (⟨S512x64, .f32⟩ : BufTy).Contents (Elt Ideal))
  (a11 a12 a13 : (⟨S512, .f32⟩ : BufTy).Contents (Elt Ideal)) (a14 : (⟨S512x256, .f32⟩ : BufTy).Contents (Elt Ideal))
  (a15 : (⟨S256, .f32⟩ : BufTy).Contents (Elt Ideal))

/-- The first state holds what the layer computes. -/
theorem starts (b : Fin 4) :
    Starts (params a0 a1 a2 a3 a4 a5 a6 a7 a8 a9 a10 a11 a12 a13 a14 a15 b) (Step.init a11 a0 a1 a2 a3 a4 a5 a6 a7 a8 a9 a10) b where
  x l d := (v122 a0 a1 a2 a3 a4 a5 a6 a7 a8 a9 a10 b l d).trans (u_eq a0 a1 a2 a3 a4 a5 a6 a7 a8 a9 a10 a11 a12 a13 a14 a15 b l d)
  dt l d := dt_eq a0 a1 a2 a3 a4 a5 a6 a7 a8 a9 a10 a11 a12 a13 a14 a15 b l d
  bm l n := (v124 a0 a1 a2 a3 a4 a5 a6 a7 a8 a9 a10 b l n).trans (pr_eq a0 a1 a2 a3 a4 a5 a6 a7 a8 a9 a10 a11 a12 a13 a14 a15 b l _)
  cm l n := (v125 a0 a1 a2 a3 a4 a5 a6 a7 a8 a9 a10 b l n).trans (pr_eq a0 a1 a2 a3 a4 a5 a6 a7 a8 a9 a10 a11 a12 a13 a14 a15 b l _)
  a d n := v120 a0 a1 a2 a3 a4 a5 a6 a7 a8 a9 a10 d n
  dsk d := rfl
  h d n := by
    show K_main_v121 (F := Ideal) (ix3 b d n) = 0
    pointwise [K_main_v121, K_main_cst_9]

/-- The result at a pixel, from the loop's outputs. -/
theorem result (b : Fin 4) (y x : Fin 32) (e : Fin 256) :
    Step.R_main_v158 s a0 a12 a13 a14 a15 (ix4 b y x e)
      = Spec.fin (fun l e => a0 (ix4 b y x e)) (fun l d => s.main_v127_8 (ix3 l b d)) (fun d => a12 (ix1 d)) (fun d => a13 (ix1 d))
          (fun d e => a14 (ix2 d e)) (fun e => a15 (ix1 e)) ⟨y.val * 32 + x.val, by omega⟩ e := by
  pointwise [Step.R_main_v158]
  rfl

/-- The result at a pixel is the layer's output. -/
theorem result_eq (b : Fin 4) (y x : Fin 32) (e : Fin 256) :
    Step.R_main_v158 (iter (Step.init a11 a0 a1 a2 a3 a4 a5 a6 a7 a8 a9 a10) 1024) a0 a12 a13 a14 a15 (ix4 b y x e)
      = (params a0 a1 a2 a3 a4 a5 a6 a7 a8 a9 a10 a11 a12 a13 a14 a15 b).out ⟨y.val * 32 + x.val, by omega⟩ e := by
  rw [result]
  have hy : (fun l d => (iter (Step.init a11 a0 a1 a2 a3 a4 a5 a6 a7 a8 a9 a10) 1024).main_v127_8 (ix3 l b d))
      = (params a0 a1 a2 a3 a4 a5 a6 a7 a8 a9 a10 a11 a12 a13 a14 a15 b).ys :=
    funext fun l => funext fun d => iter_ys (starts a0 a1 a2 a3 a4 a5 a6 a7 a8 a9 a10 a11 a12 a13 a14 a15 b) 1024 le_rfl l l.isLt d
  rw [hy]
  refine congrArg (· + _) ?_
  exact congrArg₂ (fun p q => a0 (ix4 b p q e)) (Fin.ext (by show y.val = (y.val * 32 + x.val) / 32; omega))
    (Fin.ext (by show x.val = (y.val * 32 + x.val) % 32; omega))

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.KernelFrame
public import proofs.«01_k».proof.Proof.Launch
public import proofs.«01_k».proof.Proof.RefRun
public import proofs.«01_k».proof.Proof.KRun
public import proofs.«01_k».proof.Proof.RefLoop
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs without fault and keeps its arguments. -/
theorem frame_p : Cert.quiescent_Kernel := fun m ρ _ => Cert.Kernel.Hand.frame m ρ

/-- So does the idealized kernel. -/
theorem frame_pi : Cert.quiescent_KernelIdeal := fun m ρ _ => Cert.KernelIdeal.Hand.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.RefRun.run_iter m ρ
      (fun c => Nat.rec (Cert.ReferenceIdeal.RefRun.initState m c) (fun n s => Cert.ReferenceIdeal.Step.step n s))
      (fun _ => rfl) (fun _ _ => rfl))

/-- The one named literal is `1 / log 2`, and over the extended reals it denotes that real. -/
theorem preserves : Cert.preserves_Kernel_KernelIdeal :=
  IdealRules.named_const.statement Cert.KernelIdeal.κ "log2e" .f32 0x3FB8AA3B#32 (((Real.log 2)⁻¹ : ℝ) : EReal) rfl

/-- On agreeing arguments the reference's result is the layer on the kernel's arguments. -/
theorem Layer.ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Step.R_main_v158 (Cert.ReferenceIdeal.Value.iter (Cert.ReferenceIdeal.RefRun.initState m' c) 1024)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)) = Cert.KernelIdeal.Value.layer m c := by
  obtain ⟨h0, h1, h2, h3, h4, h5, h6, h7, h8, h9, h10, h11, h12, h13, h14, h15⟩ := h
  unfold Cert.ReferenceIdeal.RefRun.initState
  rw [h0, h1, h2, h3, h4, h5, h6, h7, h8, h9, h10, h11, h12, h13, h14, h15]
  funext i
  obtain ⟨b, y, x, e, rfl⟩ : ∃ (b : Fin 4) (y x : Fin 32) (e : Fin 256), i = ix4 b y x e := ⟨i 0, i 1, i 2, i 3, by blk_ext⟩
  exact Cert.ReferenceIdeal.Value.result_eq _ _ _ _ _ _ _ _ _ _ _ _ _ _ _ _ b y x e

/-- Both programs end with the layer of Spec.lean on their arguments. -/
theorem algebraic : Cert.algebraic_KernelIdeal_ReferenceIdeal := by
  intro m g m' g' _ hagree
  refine ⟨fun c => Cert.KernelIdeal.Value.layer m c, ?_, ?_⟩
  · exact (θ_run Cert.KernelIdeal.defs _ _).mono (fun r h c => ⟨h.1 c, h.2.1 c⟩)
      (θ_run_and (Cert.KernelIdeal.Value.run_layer m g) (Cert.KernelIdeal.Hand.frame m g))
  · exact (θ_run Cert.ReferenceIdeal.defs _ _).mono
      (fun r h c => ⟨(h c).1.trans (Layer.ref_eq m m' c (hagree c)), (h c).2⟩)
      (Cert.ReferenceIdeal.RefRun.run_iter m' g'
        (fun c => Cert.ReferenceIdeal.Value.iter (Cert.ReferenceIdeal.RefRun.initState m' c)) (fun _ => rfl) (fun _ _ => rfl))

theorem claim : Cert.Claim := ⟨Cert.Kernel.Gen.facts, Cert.KernelIdeal.Gen.facts, Cert.ReferenceIdeal.Gen.facts,
  ⟨frame_p, frame_pi, frame_ri, preserves, algebraic⟩⟩

end Cert.Proof

end
